-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![1, 1024, 2048]⟩ ⟨3, ![4, 1024, 2048]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 512]⟩ ⟨2, ![1024, 2048]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x1024x2048 : Shape := ⟨3, ![1, 1024, 2048]⟩
abbrev S1024x512 : Shape := ⟨2, ![1024, 512]⟩
abbrev S3x2x512x256 : Shape := ⟨4, ![3, 2, 512, 256]⟩
abbrev S3x2 : Shape := ⟨2, ![3, 2]⟩
abbrev S_ : Shape := ⟨0, ![]⟩
abbrev S1x1 : Shape := ⟨2, ![1, 1]⟩
abbrev S1x1x512x256 : Shape := ⟨4, ![1, 1, 512, 256]⟩
abbrev S512x256 : Shape := ⟨2, ![512, 256]⟩
abbrev S1x512x256 : Shape := ⟨3, ![1, 512, 256]⟩

abbrev nBuf : Space → Nat
  | .hbm => 2
  | .vmem => 4
  | .smem => 0
  | _ => 0

abbrev bufTy : (tb : Table) → Fin (tcTables nBuf tb) → BufTy
  | .hbm, ⟨0, _⟩ => ⟨S1x1024x2048, .f32⟩
  | .hbm, ⟨1, _⟩ => ⟨S1024x512, .f32⟩
  | .local _ .vmem, ⟨0, _⟩ => ⟨S1x1024x2048, .f32⟩
  | .local _ .vmem, ⟨1, _⟩ => ⟨S1024x512, .f32⟩
  | .local _ .vmem, ⟨2, _⟩ => ⟨S3x2x512x256, .f32⟩
  | .local _ .vmem, ⟨3, _⟩ => ⟨S3x2x512x256, .f32⟩
  | _, _ => ⟨S1x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  (ofTc nBuf bufTy 1 26 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_16 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_15 : BitVec 32 := 1#32
  let v27 : BitVec 32 := Scalar.muli v14 c1_i32_15
  let v28 : BitVec 32 := Scalar.addi c0_i32_16 v27
  v28.toNat
def k0_dev2 (d0 : Dev nD) : Nat :=
  let c0_i32_19 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_18 : BitVec 32 := 1#32
  let v29 : BitVec 32 := Scalar.muli v25 c1_i32_18
  let v30 : BitVec 32 := Scalar.addi c0_i32_19 v29
  v30.toNat
def k0_off1 (d0 : Dev nD) : Fin 3 → Nat :=
  let c0_i32_36 : BitVec 32 := 0#32
  let c0_i32_47 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_20 : BitVec 32 := 1#32
  let v31 : BitVec 32 := Scalar.subi v2 c1_i32_20
  let c4_i32_21 : BitVec 32 := 4#32
  let v32 : BitVec 32 := Scalar.addi v31 c4_i32_21
  let c4_i32_22 : BitVec 32 := 4#32
  let c0_i32_23 : BitVec 32 := 0#32
  let v33 : BitVec 1 := Scalar.cmpi .eq c4_i32_22 c0_i32_23
  let c1_i32_24 : BitVec 32 := 1#32
  let v34 : BitVec 32 := Scalar.select v33 c1_i32_24 c4_i32_22
  let v35 : BitVec 32 := Scalar.remsi v32 v34
  let c0_i32_26 : BitVec 32 := 0#32
  let v37 : BitVec 1 := Scalar.cmpi .slt v35 c0_i32_26
  let c0_i32_27 : BitVec 32 := 0#32
  let v38 : BitVec 1 := Scalar.cmpi .slt v34 c0_i32_27
  let v39 : BitVec 1 := Scalar.xori v37 v38
  let c0_i32_25 : BitVec 32 := 0#32
  let v36 : BitVec 1 := Scalar.cmpi .ne v35 c0_i32_25
  let v40 : BitVec 1 := Scalar.andi v39 v36
  let v41 : BitVec 32 := Scalar.addi v35 v34
  let v42 : BitVec 32 := Scalar.select v40 v41 v35
  let c512_i32 : BitVec 32 := 512#32
  let v54 : BitVec 32 := Scalar.muli v42 c512_i32
  ![0, 0, v54.toNat]
def k0_dev3 (d0 : Dev nD) : Nat :=
  let c0_i32_44 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_43 : BitVec 32 := 1#32
  let v57 : BitVec 32 := Scalar.muli v25 c1_i32_43
  let v58 : BitVec 32 := Scalar.addi c0_i32_44 v57
  v58.toNat
def k0_off2 (d0 : Dev nD) : Fin 3 → Nat :=
  let c0_i32_48 : BitVec 32 := 0#32
  let c0_i32_59 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_28 : BitVec 32 := 1#32
  let v43 : BitVec 32 := Scalar.addi v2 c1_i32_28
  let c4_i32_29 : BitVec 32 := 4#32
  let c0_i32_30 : BitVec 32 := 0#32
  let v44 : BitVec 1 := Scalar.cmpi .eq c4_i32_29 c0_i32_30
  let c1_i32_31 : BitVec 32 := 1#32
  let v45 : BitVec 32 := Scalar.select v44 c1_i32_31 c4_i32_29
  let v46 : BitVec 32 := Scalar.remsi v43 v45
  let c0_i32_33 : BitVec 32 := 0#32
  let v48 : BitVec 1 := Scalar.cmpi .slt v46 c0_i32_33
  let c0_i32_34 : BitVec 32 := 0#32
  let v49 : BitVec 1 := Scalar.cmpi .slt v45 c0_i32_34
  let v50 : BitVec 1 := Scalar.xori v48 v49
  let c0_i32_32 : BitVec 32 := 0#32
  let v47 : BitVec 1 := Scalar.cmpi .ne v46 c0_i32_32
  let v51 : BitVec 1 := Scalar.andi v50 v47
  let v52 : BitVec 32 := Scalar.addi v46 v45
  let v53 : BitVec 32 := Scalar.select v51 v52 v46
  let c512_i32_35 : BitVec 32 := 512#32
  let v55 : BitVec 32 := Scalar.muli v53 c512_i32_35
  let c256_i32 : BitVec 32 := 256#32
  let v56 : BitVec 32 := Scalar.addi v55 c256_i32
  ![0, 0, v56.toNat]
def k0_dev4 (d0 : Dev nD) : Nat :=
  let c0_i32_56 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_55 : BitVec 32 := 1#32
  let v67 : BitVec 32 := Scalar.muli v14 c1_i32_55
  let v68 : BitVec 32 := Scalar.addi c0_i32_56 v67
  v68.toNat
def k0_off3 (d0 : Dev nD) : Fin 3 → Nat :=
  let c0_i32_63 : BitVec 32 := 0#32
  let c512_i32_74 : BitVec 32 := 512#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_20 : BitVec 32 := 1#32
  let v31 : BitVec 32 := Scalar.subi v2 c1_i32_20
  let c4_i32_21 : BitVec 32 := 4#32
  let v32 : BitVec 32 := Scalar.addi v31 c4_i32_21
  let c4_i32_22 : BitVec 32 := 4#32
  let c0_i32_23 : BitVec 32 := 0#32
  let v33 : BitVec 1 := Scalar.cmpi .eq c4_i32_22 c0_i32_23
  let c1_i32_24 : BitVec 32 := 1#32
  let v34 : BitVec 32 := Scalar.select v33 c1_i32_24 c4_i32_22
  let v35 : BitVec 32 := Scalar.remsi v32 v34
  let c0_i32_26 : BitVec 32 := 0#32
  let v37 : BitVec 1 := Scalar.cmpi .slt v35 c0_i32_26
  let c0_i32_27 : BitVec 32 := 0#32
  let v38 : BitVec 1 := Scalar.cmpi .slt v34 c0_i32_27
  let v39 : BitVec 1 := Scalar.xori v37 v38
  let c0_i32_25 : BitVec 32 := 0#32
  let v36 : BitVec 1 := Scalar.cmpi .ne v35 c0_i32_25
  let v40 : BitVec 1 := Scalar.andi v39 v36
  let v41 : BitVec 32 := Scalar.addi v35 v34
  let v42 : BitVec 32 := Scalar.select v40 v41 v35
  let c512_i32_60 : BitVec 32 := 512#32
  let v77 : BitVec 32 := Scalar.muli v42 c512_i32_60
  ![0, 512, v77.toNat]
def k0_dev5 (d0 : Dev nD) : Nat :=
  let c0_i32_71 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_70 : BitVec 32 := 1#32
  let v80 : BitVec 32 := Scalar.muli v25 c1_i32_70
  let v81 : BitVec 32 := Scalar.addi c0_i32_71 v80
  v81.toNat
def k0_off4 (d0 : Dev nD) : Fin 3 → Nat :=
  let c0_i32_75 : BitVec 32 := 0#32
  let c512_i32_86 : BitVec 32 := 512#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_28 : BitVec 32 := 1#32
  let v43 : BitVec 32 := Scalar.addi v2 c1_i32_28
  let c4_i32_29 : BitVec 32 := 4#32
  let c0_i32_30 : BitVec 32 := 0#32
  let v44 : BitVec 1 := Scalar.cmpi .eq c4_i32_29 c0_i32_30
  let c1_i32_31 : BitVec 32 := 1#32
  let v45 : BitVec 32 := Scalar.select v44 c1_i32_31 c4_i32_29
  let v46 : BitVec 32 := Scalar.remsi v43 v45
  let c0_i32_33 : BitVec 32 := 0#32
  let v48 : BitVec 1 := Scalar.cmpi .slt v46 c0_i32_33
  let c0_i32_34 : BitVec 32 := 0#32
  let v49 : BitVec 1 := Scalar.cmpi .slt v45 c0_i32_34
  let v50 : BitVec 1 := Scalar.xori v48 v49
  let c0_i32_32 : BitVec 32 := 0#32
  let v47 : BitVec 1 := Scalar.cmpi .ne v46 c0_i32_32
  let v51 : BitVec 1 := Scalar.andi v50 v47
  let v52 : BitVec 32 := Scalar.addi v46 v45
  let v53 : BitVec 32 := Scalar.select v51 v52 v46
  let c512_i32_61 : BitVec 32 := 512#32
  let v78 : BitVec 32 := Scalar.muli v53 c512_i32_61
  let c256_i32_62 : BitVec 32 := 256#32
  let v79 : BitVec 32 := Scalar.addi v78 c256_i32_62
  ![0, 512, v79.toNat]
def k0_dev6 (d0 : Dev nD) : Nat :=
  let c0_i32_83 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_82 : BitVec 32 := 1#32
  let v90 : BitVec 32 := Scalar.muli v14 c1_i32_82
  let v91 : BitVec 32 := Scalar.addi c0_i32_83 v90
  v91.toNat
def k0_off5 (d0 : Dev nD) (c1_i32_87 : BitVec 32) : Fin 3 → Nat :=
  let c0_121 : Index := 0#32
  let c0_122 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v100 : BitVec 32 := Scalar.subi v2 c1_i32_87
  let c1_i32_88 : BitVec 32 := 1#32
  let v101 : BitVec 32 := Scalar.subi v100 c1_i32_88
  let c8_i32 : BitVec 32 := 8#32
  let v102 : BitVec 32 := Scalar.addi v101 c8_i32
  let c4_i32_89 : BitVec 32 := 4#32
  let c0_i32_90 : BitVec 32 := 0#32
  let v103 : BitVec 1 := Scalar.cmpi .eq c4_i32_89 c0_i32_90
  let c1_i32_91 : BitVec 32 := 1#32
  let v104 : BitVec 32 := Scalar.select v103 c1_i32_91 c4_i32_89
  let v105 : BitVec 32 := Scalar.remsi v102 v104
  let c0_i32_93 : BitVec 32 := 0#32
  let v107 : BitVec 1 := Scalar.cmpi .slt v105 c0_i32_93
  let c0_i32_94 : BitVec 32 := 0#32
  let v108 : BitVec 1 := Scalar.cmpi .slt v104 c0_i32_94
  let v109 : BitVec 1 := Scalar.xori v107 v108
  let c0_i32_92 : BitVec 32 := 0#32
  let v106 : BitVec 1 := Scalar.cmpi .ne v105 c0_i32_92
  let v110 : BitVec 1 := Scalar.andi v109 v106
  let v111 : BitVec 32 := Scalar.addi v105 v104
  let v112 : BitVec 32 := Scalar.select v110 v111 v105
  let c512_i32_120 : BitVec 32 := 512#32
  let v135 : BitVec 32 := Scalar.muli v112 c512_i32_120
  let v136 : Index := Scalar.indexCast v135
  ![0, 0, v136.toNat]
def k0_dev7 (d0 : Dev nD) : Nat :=
  let c0_i32_136 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_135 : BitVec 32 := 1#32
  let v143 : BitVec 32 := Scalar.muli v25 c1_i32_135
  let v144 : BitVec 32 := Scalar.addi c0_i32_136 v143
  v144.toNat
def k0_off6 (d0 : Dev nD) (c1_i32_95 : BitVec 32) : Fin 3 → Nat :=
  let c0_161 : Index := 0#32
  let c0_162 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v113 : BitVec 32 := Scalar.addi v2 c1_i32_95
  let c1_i32_96 : BitVec 32 := 1#32
  let v114 : BitVec 32 := Scalar.addi v113 c1_i32_96
  let c4_i32_97 : BitVec 32 := 4#32
  let c0_i32_98 : BitVec 32 := 0#32
  let v115 : BitVec 1 := Scalar.cmpi .eq c4_i32_97 c0_i32_98
  let c1_i32_99 : BitVec 32 := 1#32
  let v116 : BitVec 32 := Scalar.select v115 c1_i32_99 c4_i32_97
  let v117 : BitVec 32 := Scalar.remsi v114 v116
  let c0_i32_101 : BitVec 32 := 0#32
  let v119 : BitVec 1 := Scalar.cmpi .slt v117 c0_i32_101
  let c0_i32_102 : BitVec 32 := 0#32
  let v120 : BitVec 1 := Scalar.cmpi .slt v116 c0_i32_102
  let v121 : BitVec 1 := Scalar.xori v119 v120
  let c0_i32_100 : BitVec 32 := 0#32
  let v118 : BitVec 1 := Scalar.cmpi .ne v117 c0_i32_100
  let v122 : BitVec 1 := Scalar.andi v121 v118
  let v123 : BitVec 32 := Scalar.addi v117 v116
  let v124 : BitVec 32 := Scalar.select v122 v123 v117
  let c512_i32_159 : BitVec 32 := 512#32
  let v163 : BitVec 32 := Scalar.muli v124 c512_i32_159
  let c256_i32_160 : BitVec 32 := 256#32
  let v164 : BitVec 32 := Scalar.addi v163 c256_i32_160
  let v165 : Index := Scalar.indexCast v164
  ![0, 0, v165.toNat]
def k0_dev8 (d0 : Dev nD) : Nat :=
  let c0_i32_176 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_175 : BitVec 32 := 1#32
  let v172 : BitVec 32 := Scalar.muli v14 c1_i32_175
  let v173 : BitVec 32 := Scalar.addi c0_i32_176 v172
  v173.toNat
def k0_off7 (d0 : Dev nD) (c1_i32_87 : BitVec 32) : Fin 3 → Nat :=
  let c0_199 : Index := 0#32
  let c512 : Index := 512#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v100 : BitVec 32 := Scalar.subi v2 c1_i32_87
  let c1_i32_88 : BitVec 32 := 1#32
  let v101 : BitVec 32 := Scalar.subi v100 c1_i32_88
  let c8_i32 : BitVec 32 := 8#32
  let v102 : BitVec 32 := Scalar.addi v101 c8_i32
  let c4_i32_89 : BitVec 32 := 4#32
  let c0_i32_90 : BitVec 32 := 0#32
  let v103 : BitVec 1 := Scalar.cmpi .eq c4_i32_89 c0_i32_90
  let c1_i32_91 : BitVec 32 := 1#32
  let v104 : BitVec 32 := Scalar.select v103 c1_i32_91 c4_i32_89
  let v105 : BitVec 32 := Scalar.remsi v102 v104
  let c0_i32_93 : BitVec 32 := 0#32
  let v107 : BitVec 1 := Scalar.cmpi .slt v105 c0_i32_93
  let c0_i32_94 : BitVec 32 := 0#32
  let v108 : BitVec 1 := Scalar.cmpi .slt v104 c0_i32_94
  let v109 : BitVec 1 := Scalar.xori v107 v108
  let c0_i32_92 : BitVec 32 := 0#32
  let v106 : BitVec 1 := Scalar.cmpi .ne v105 c0_i32_92
  let v110 : BitVec 1 := Scalar.andi v109 v106
  let v111 : BitVec 32 := Scalar.addi v105 v104
  let v112 : BitVec 32 := Scalar.select v110 v111 v105
  let c512_i32_198 : BitVec 32 := 512#32
  let v192 : BitVec 32 := Scalar.muli v112 c512_i32_198
  let v193 : Index := Scalar.indexCast v192
  ![0, 512, v193.toNat]
def k0_dev9 (d0 : Dev nD) : Nat :=
  let c0_i32_213 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_212 : BitVec 32 := 1#32
  let v200 : BitVec 32 := Scalar.muli v25 c1_i32_212
  let v201 : BitVec 32 := Scalar.addi c0_i32_213 v200
  v201.toNat
def k0_off8 (d0 : Dev nD) (c1_i32_95 : BitVec 32) : Fin 3 → Nat :=
  let c0_238 : Index := 0#32
  let c512_239 : Index := 512#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v113 : BitVec 32 := Scalar.addi v2 c1_i32_95
  let c1_i32_96 : BitVec 32 := 1#32
  let v114 : BitVec 32 := Scalar.addi v113 c1_i32_96
  let c4_i32_97 : BitVec 32 := 4#32
  let c0_i32_98 : BitVec 32 := 0#32
  let v115 : BitVec 1 := Scalar.cmpi .eq c4_i32_97 c0_i32_98
  let c1_i32_99 : BitVec 32 := 1#32
  let v116 : BitVec 32 := Scalar.select v115 c1_i32_99 c4_i32_97
  let v117 : BitVec 32 := Scalar.remsi v114 v116
  let c0_i32_101 : BitVec 32 := 0#32
  let v119 : BitVec 1 := Scalar.cmpi .slt v117 c0_i32_101
  let c0_i32_102 : BitVec 32 := 0#32
  let v120 : BitVec 1 := Scalar.cmpi .slt v116 c0_i32_102
  let v121 : BitVec 1 := Scalar.xori v119 v120
  let c0_i32_100 : BitVec 32 := 0#32
  let v118 : BitVec 1 := Scalar.cmpi .ne v117 c0_i32_100
  let v122 : BitVec 1 := Scalar.andi v121 v118
  let v123 : BitVec 32 := Scalar.addi v117 v116
  let v124 : BitVec 32 := Scalar.select v122 v123 v117
  let c512_i32_236 : BitVec 32 := 512#32
  let v220 : BitVec 32 := Scalar.muli v124 c512_i32_236
  let c256_i32_237 : BitVec 32 := 256#32
  let v221 : BitVec 32 := Scalar.addi v220 c256_i32_237
  let v222 : Index := Scalar.indexCast v221
  ![0, 512, v222.toNat]
def k0_dev10 (d0 : Dev nD) : Nat :=
  let c0_i32_253 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_252 : BitVec 32 := 1#32
  let v229 : BitVec 32 := Scalar.muli v14 c1_i32_252
  let v230 : BitVec 32 := Scalar.addi c0_i32_253 v229
  v230.toNat
def k0_dev11 (d0 : Dev nD) : Nat :=
  let c0_i32_309 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_308 : BitVec 32 := 1#32
  let v282 : BitVec 32 := Scalar.muli v25 c1_i32_308
  let v283 : BitVec 32 := Scalar.addi c0_i32_309 v282
  v283.toNat
def k0_dev12 (d0 : Dev nD) : Nat :=
  let c0_i32_349 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_348 : BitVec 32 := 1#32
  let v311 : BitVec 32 := Scalar.muli v14 c1_i32_348
  let v312 : BitVec 32 := Scalar.addi c0_i32_349 v311
  v312.toNat
def k0_dev13 (d0 : Dev nD) : Nat :=
  let c0_i32_388 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_387 : BitVec 32 := 1#32
  let v339 : BitVec 32 := Scalar.muli v25 c1_i32_387
  let v340 : BitVec 32 := Scalar.addi c0_i32_388 v339
  v340.toNat
def k0_dev14 (d0 : Dev nD) : Nat :=
  let c0_i32_428 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_427 : BitVec 32 := 1#32
  let v368 : BitVec 32 := Scalar.muli v14 c1_i32_427
  let v369 : BitVec 32 := Scalar.addi c0_i32_428 v368
  v369.toNat
def k0_off9 (d0 : Dev nD) : Fin 3 → Nat :=
  let c0_451 : Index := 0#32
  let c0_452 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_450 : BitVec 32 := 512#32
  let v388 : BitVec 32 := Scalar.muli v2 c512_i32_450
  let v389 : Index := Scalar.indexCast v388
  ![0, 0, v389.toNat]
def k0_off10 (d0 : Dev nD) : Fin 3 → Nat :=
  let c0_475 : Index := 0#32
  let c0_476 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_473 : BitVec 32 := 512#32
  let v404 : BitVec 32 := Scalar.muli v2 c512_i32_473
  let c256_i32_474 : BitVec 32 := 256#32
  let v405 : BitVec 32 := Scalar.addi v404 c256_i32_474
  let v406 : Index := Scalar.indexCast v405
  ![0, 0, v406.toNat]
def k0_off11 (d0 : Dev nD) : Fin 3 → Nat :=
  let c0_497 : Index := 0#32
  let c512_498 : Index := 512#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_496 : BitVec 32 := 512#32
  let v421 : BitVec 32 := Scalar.muli v2 c512_i32_496
  let v422 : Index := Scalar.indexCast v421
  ![0, 512, v422.toNat]
def k0_off12 (d0 : Dev nD) : Fin 3 → Nat :=
  let c0_521 : Index := 0#32
  let c512_522 : Index := 512#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_519 : BitVec 32 := 512#32
  let v437 : BitVec 32 := Scalar.muli v2 c512_i32_519
  let c256_i32_520 : BitVec 32 := 256#32
  let v438 : BitVec 32 := Scalar.addi v437 c256_i32_520
  let v439 : Index := Scalar.indexCast v438
  ![0, 512, v439.toNat]
abbrev stage0_0 : Fin 1 → Memref sig .tc .vmem S1x1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4x1024x2048 : Shape := ⟨3, ![4, 1024, 2048]⟩
abbrev S_ : Shape := ⟨0, ![]⟩
abbrev S1024x2048 : Shape := ⟨2, ![1024, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4x1024x2048, .f32⟩
  | .hbm, ⟨1, _⟩ => ⟨S_, .f32⟩
  | .hbm, ⟨2, _⟩ => ⟨S1024x2048, .f32⟩
  | _, _ => ⟨S4x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Cells.lean ====
/-
The ring of four devices, and the names of everything the kernel touches: the two directions of travel, the twelve
legs of the reduce-scatter, the buffer slot and the two transfer semaphores each leg uses, the barrier semaphore, and
the shards of the input block.

A LEG `(d, t, g)` is one copy: direction `d` (`false`: to the device after; `true`: to the device before), hop `t` of
three, row group `g` of two. Everything is stated once for a leg; the kernel's twelve copies are its instances.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.MemrefSat
public import Idealize.ShloMosaic.Lib.Tactic

@[expose] public section

noncomputable section

namespace Cert.RingScatter

open Cert.KernelIdeal Cert.KernelIdeal.Gen

open Idealize.ShloMosaic
open Idealize.ShloMosaic.TcCoe
open Idealize.SL Idealize.SL.Sem

/-! ## The ring -/

set_option backward.proofsInPublic true in
/-- The device after `c`. -/
def nxt (c : Dev nD) : Dev nD := ⟨(c.val + 1) % 4, Nat.mod_lt _ (by decide)⟩
set_option backward.proofsInPublic true in
/-- The device before `c`. -/
def prv (c : Dev nD) : Dev nD := ⟨(c.val + 3) % 4, Nat.mod_lt _ (by decide)⟩

/-- Where a copy in direction `d` goes from `c`. -/
def dst (d : Bool) (c : Dev nD) : Dev nD := bif d then prv c else nxt c
/-- Where a copy in direction `d` that lands on `c` came from. -/
def src (d : Bool) (c : Dev nD) : Dev nD := bif d then nxt c else prv c

theorem src_dst (d : Bool) (c : Dev nD) : src d (dst d c) = c := by revert d c; decide
theorem dst_src (d : Bool) (c : Dev nD) : dst d (src d c) = c := by revert d c; decide

/-- Going one way round the ring, as a permutation of the devices. -/
def turn (d : Bool) : Dev nD ≃ Dev nD := ⟨dst d, src d, src_dst d, dst_src d⟩

/-! ## The legs -/

/-- Direction, hop, row group. -/
abbrev Leg : Type := Bool × Fin 3 × Fin 2

/-- A transfer semaphore: whether it is the receiver's (`true`) or the sender's, and its leg. -/
abbrev Port : Type := Bool × Leg

/-- The kernel's semaphore arrays: send and receive, per direction. -/
def semArr (recv d : Bool) : DmaSems sig S3x2 :=
  match recv, d with
  | false, false => cc0_scratch2
  | true, false => cc0_scratch3
  | false, true => cc0_scratch4
  | true, true => cc0_scratch5

theorem inb_sem (t : Fin 3) (g : Fin 2) : ∀ a, (![(t : ℕ), (g : ℕ)] : Fin 2 → ℕ) a + S1x1.size a ≤ S3x2.size a := by
  revert t g; decide

/-- The semaphore of a port, spelt as the kernel spells it. -/
def portSem (p : Port) : DmaSem sig :=
  (((semArr p.1 p.2.1).slice (Rect.unit (s := S3x2) ![(p.2.2.1 : ℕ), (p.2.2.2 : ℕ)] S1x1.size (inb_sem _ _))).squeeze S_ squeezes_S1x1_S_).sem

/-- Its number among the device's transfer semaphores (numbers 0 and 1 are the pipeline's own). -/
theorem portSem_val : ∀ p : Port, (portSem p).val = 2 + 12 * p.2.1.toNat + 6 * p.1.toNat + 2 * p.2.2.1.val + p.2.2.2.val := by decide +kernel

/-- The port a transfer semaphore belongs to, if any. -/
def portOf (s : DmaSem sig) : Option Port :=
  if s.val < 2 then none
  else some (decide (6 ≤ (s.val - 2) % 12), decide (14 ≤ s.val),
    ⟨((s.val - 2) % 6) / 2, by omega⟩, ⟨(s.val - 2) % 2, by omega⟩)

theorem portOf_portSem : ∀ p : Port, portOf (portSem p) = some p := by decide +kernel
theorem portSem_inj : Function.Injective portSem := fun p q h => by
  have := congrArg portOf h; rw [portOf_portSem, portOf_portSem] at this; exact Option.some.inj this

/-- The runtime's barrier semaphore. -/
abbrev barS : Sem sig := (SemArray.scalar (sig.barrier 0 rfl) : Sems sig S_).sem

/-- A device's semaphores: the barrier (`none`) and the ports. -/
abbrev locOf : Option Port → SemLoc sig := fun
  | none => .reg barS
  | some p => .dma (portSem p)

theorem locOf_inj : Function.Injective locOf := by
  intro a b h
  match a, b, h with
  | none, none, _ => rfl
  | some p, some q, h => rw [portSem_inj (SemLoc.dma.inj h)]

abbrev barCell (c : Dev nD) : GSem nD τ sig := ((c : Thread nD τ), .reg barS)
abbrev sendCell (i : Leg) (c : Dev nD) : GSem nD τ sig := ((c : Thread nD τ), .dma (portSem (false, i)))
abbrev recvCell (i : Leg) (c : Dev nD) : GSem nD τ sig := ((c : Thread nD τ), .dma (portSem (true, i)))
abbrev cellAt (ck : Dev nD × Option Port) : GSem nD τ sig := ((ck.1 : Thread nD τ), locOf ck.2)

/-! ## The buffers -/

abbrev xM : Memref sig .tc .vmem S1x1024x2048 .f32 := Memref.whole cc0_stg0_0
abbrev oM : Memref sig .tc .vmem S1024x512 .f32 := Memref.whole cc0_stg1_0

/-- The communication buffer of a direction. -/
def bufR (d : Bool) : Ref sig .tc := bif d then cc0_scratch1 else cc0_scratch0
abbrev bufM (d : Bool) : Memref sig .tc .vmem S3x2x512x256 .f32 :=
  match d with | false => Memref.whole cc0_scratch0 | true => Memref.whole cc0_scratch1

theorem inb_slot (t : Fin 3) (g : Fin 2) : ∀ a, (![(t : ℕ), (g : ℕ), 0, 0] : Fin 4 → ℕ) a + S1x1x512x256.size a ≤ S3x2x512x256.size a := by
  revert t g; decide

/-- The elements of slot `(t, g)` of a communication buffer. -/
abbrev slotR (tg : Fin 3 × Fin 2) : Rect S3x2x512x256 :=
  Rect.unit (s := S3x2x512x256) ![(tg.1 : ℕ), (tg.2 : ℕ), 0, 0] S1x1x512x256.size (inb_slot _ _)

/-- Slot `(t, g)` of the communication buffer of direction `d`, as a block of 512 rows by 256 columns. -/
abbrev slotM (i : Leg) : Memref sig .tc .vmem S512x256 .f32 :=
  ((bufM i.1).slice (slotR i.2) (fun _ => rfl)).squeeze S512x256 squeezes_S1x1x512x256_S512x256

/-- Where shard `k`'s part for direction `d` and row group `g` starts in a device's input block. -/
def xoff (d : Bool) (g : Fin 2) (k : Dev nD) : Fin 3 → ℕ := ![0, 512 * g.val, 512 * k.val + 256 * d.toNat]

theorem inb_x (d : Bool) (g : Fin 2) (k : Dev nD) : ∀ a, xoff d g k a + S1x512x256.size a ≤ S1x1024x2048.size a := by
  revert d g k; decide

abbrev xR (d : Bool) (g : Fin 2) (k : Dev nD) : Rect S1x1024x2048 :=
  Rect.unit (s := S1x1024x2048) (xoff d g k) S1x512x256.size (inb_x d g k)

/-- That part of the input block, as a block of 512 rows by 256 columns. -/
abbrev xslot (d : Bool) (g : Fin 2) (k : Dev nD) : Memref sig .tc .vmem S512x256 .f32 :=
  (xM.slice (xR d g k) (fun _ => rfl)).squeeze S512x256 squeezes_S1x512x256_S512x256

/-- Where the quadrant of direction `d` (columns) and row group `g` (rows) starts in the result block. -/
def ooff (dg : Bool × Fin 2) : Fin 2 → ℕ := ![512 * dg.2.val, 256 * dg.1.toNat]

theorem inb_o (dg : Bool × Fin 2) : ∀ a, ooff dg a + S512x256.size a ≤ S1024x512.size a := by
  revert dg; decide

abbrev oR (dg : Bool × Fin 2) : Rect S1024x512 := Rect.unit (s := S1024x512) (ooff dg) S512x256.size (inb_o dg)

/-- The credit of one copy, the same on every leg. -/
abbrev N : ℕ := (slotM (false, 0, 0)).view.dmaCredit
theorem N_pos : 0 < N := View.dmaCredit_pos _ (by decide)

/-! ## The kernel's device numbers and offsets -/

theorem dev1_eq : ∀ c : Dev nD, (⟨k0_dev1 c, k0_dev1_lt c⟩ : Dev nD) = src false c := by decide +kernel
theorem dev2_eq : ∀ c : Dev nD, (⟨k0_dev2 c, k0_dev2_lt c⟩ : Dev nD) = src true c := by decide +kernel
theorem dev3_eq : ∀ c : Dev nD, (⟨k0_dev3 c, k0_dev3_lt c⟩ : Dev nD) = dst false c := by decide +kernel
theorem dev4_eq : ∀ c : Dev nD, (⟨k0_dev4 c, k0_dev4_lt c⟩ : Dev nD) = dst true c := by decide +kernel
theorem dev5_eq : ∀ c : Dev nD, (⟨k0_dev5 c, k0_dev5_lt c⟩ : Dev nD) = dst false c := by decide +kernel
theorem dev6_eq : ∀ c : Dev nD, (⟨k0_dev6 c, k0_dev6_lt c⟩ : Dev nD) = dst true c := by decide +kernel
theorem dev7_eq : ∀ c : Dev nD, (⟨k0_dev7 c, k0_dev7_lt c⟩ : Dev nD) = dst false c := by decide +kernel
theorem dev8_eq : ∀ c : Dev nD, (⟨k0_dev8 c, k0_dev8_lt c⟩ : Dev nD) = dst true c := by decide +kernel
theorem dev9_eq : ∀ c : Dev nD, (⟨k0_dev9 c, k0_dev9_lt c⟩ : Dev nD) = dst false c := by decide +kernel
theorem dev10_eq : ∀ c : Dev nD, (⟨k0_dev10 c, k0_dev10_lt c⟩ : Dev nD) = dst true c := by decide +kernel
theorem dev11_eq : ∀ c : Dev nD, (⟨k0_dev11 c, k0_dev11_lt c⟩ : Dev nD) = dst false c := by decide +kernel
theorem dev12_eq : ∀ c : Dev nD, (⟨k0_dev12 c, k0_dev12_lt c⟩ : Dev nD) = dst true c := by decide +kernel
theorem dev13_eq : ∀ c : Dev nD, (⟨k0_dev13 c, k0_dev13_lt c⟩ : Dev nD) = dst false c := by decide +kernel
theorem dev14_eq : ∀ c : Dev nD, (⟨k0_dev14 c, k0_dev14_lt c⟩ : Dev nD) = dst true c := by decide +kernel

/-- The shard a leg of hop `t` adds on device `c` once its block has arrived: `t + 2` steps against the direction of travel. -/
def shard (d : Bool) (t : ℕ) (c : Dev nD) : Dev nD := (src d)^[t + 2] c

theorem off1_eq : ∀ c : Dev nD, k0_off1 c = xoff false 0 (src false c) := by decide +kernel
theorem off2_eq : ∀ c : Dev nD, k0_off2 c = xoff true 0 (src true c) := by decide +kernel
theorem off3_eq : ∀ c : Dev nD, k0_off3 c = xoff false 1 (src false c) := by decide +kernel
theorem off4_eq : ∀ c : Dev nD, k0_off4 c = xoff true 1 (src true c) := by decide +kernel
theorem off5_eq : ∀ (c : Dev nD) (r : Fin 2), k0_off5 c (BitVec.ofNat 32 (1 + r.val)) = xoff false 0 (shard false r.val c) := by decide +kernel
theorem off6_eq : ∀ (c : Dev nD) (r : Fin 2), k0_off6 c (BitVec.ofNat 32 (1 + r.val)) = xoff true 0 (shard true r.val c) := by decide +kernel
theorem off7_eq : ∀ (c : Dev nD) (r : Fin 2), k0_off7 c (BitVec.ofNat 32 (1 + r.val)) = xoff false 1 (shard false r.val c) := by decide +kernel
theorem off8_eq : ∀ (c : Dev nD) (r : Fin 2), k0_off8 c (BitVec.ofNat 32 (1 + r.val)) = xoff true 1 (shard true r.val c) := by decide +kernel
theorem off9_eq : ∀ c : Dev nD, k0_off9 c = xoff false 0 (shard false 2 c) := by decide +kernel
theorem off10_eq : ∀ c : Dev nD, k0_off10 c = xoff true 0 (shard true 2 c) := by decide +kernel
theorem off11_eq : ∀ c : Dev nD, k0_off11 c = xoff false 1 (shard false 2 c) := by decide +kernel
theorem off12_eq : ∀ c : Dev nD, k0_off12 c = xoff true 1 (shard true 2 c) := by decide +kernel

end Cert.RingScatter

end
-- ==== Proof.Sched.lean ====
/-
What travels and who waits for it. `sent d g t c` is the block device `c` sends on leg `(d, t, g)` (and, at `t = 3`,
the finished quadrant of its result). The SCHEDULE gives each semaphore one round:

* a device's barrier has one duty per direction `d`, one unit each, paid by the device its copies in direction `d` go
  to; the payment hands over that device's communication buffer of direction `d`;
* a receive semaphore of a leg has one duty, paid by the copy's arrival: the slot, holding the block sent;
* a send semaphore of a leg has one duty, paid when the copy has read its source: the source, unchanged.

Also here: what each device owes at launch, and the order of the semaphores under which no wait is circular.
-/
module

public import proofs.«01_k».proof.Proof.Cells

@[expose] public section

noncomputable section

namespace Cert.RingScatter

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's rounds and the ring's -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every counter zero. -/
def s₀ : MemSt nD τ sig (Elt F) := ⟨m, fun _ => 0, ρ⟩

/-! ## Contents -/

/-- Device `c`'s input block, as the pipeline stages it. -/
def xstg (c : Dev nD) : (cc0_stg0_0 : Ref sig .tc).ty.Contents (Elt F) :=
  (win0_0.blk (0 : Fin 1)).view.read (Elt F) ((s₀ m ρ).mem ((c : Thread nD τ).loc main_arg0))

/-- Shard `k`'s part of device `c`'s input, for direction `d` and row group `g`. -/
def piece (d : Bool) (g : Fin 2) (k c : Dev nD) : FVec F S512x256 .f32 := (xslot d g k).view.read (Elt F) (xstg m ρ c)

/-- What device `c` sends in direction `d` for row group `g` at hop `t`: at hop 0 its own part of the shard of the
    device behind; at a later hop what it received at the hop before, plus its own part of the same shard. -/
def sent (d : Bool) (g : Fin 2) : ℕ → Dev nD → FVec F S512x256 .f32
  | 0, c => piece m ρ d g (src d c) c
  | t + 1, c => addf (sent d g t (src d c)) (piece m ρ d g (shard d t c) c)

/-! ## Payloads -/

/-- The share of the input block lent to the hop-0 copy of direction `d` and row group `g`: a quarter of the right half. -/
def shr (d : Bool) (g : Fin 2) : PosShare TreeShare :=
  let h := bif d then fullShare.right.right else fullShare.right.left
  if g = 0 then h.left else h.right

/-- The part of the input block the hop-0 copy reads, at the share lent to it. -/
def lent (d : Bool) (g : Fin 2) (c : Dev nD) : sProp 𝕄 :=
  (xslot d g (src d c)).view.loc (c : Thread nD τ) ↦[(xslot d g (src d c)).view.set]{shr d g} xstg m ρ c

/-- What a payment for direction `d` hands device `c` at the barrier: the six slots its copies in that direction land in. -/
def barPay (d : Bool) (c : Dev nD) : sProp 𝕄 :=
  bigSep Finset.univ fun tg : Fin 3 × Fin 2 => ownsSat (dst d c : Thread nD τ) (slotM (d, tg)) fullShare (fun _ => True)

/-- A slot of device `c`, holding the block that arrives in it. -/
def recvPay (i : Leg) (c : Dev nD) : sProp 𝕄 :=
  owns (c : Thread nD τ) (slotM i) fullShare (sent m ρ i.1 i.2.2 i.2.1 (src i.1 c))

/-- A copy's source on device `c`: the lent part of the input at hop 0, the slot of the hop before at a later one. -/
def sendPay (i : Leg) (c : Dev nD) : sProp 𝕄 :=
  match i with
  | (d, ⟨0, _⟩, g) => lent m ρ d g c
  | (d, ⟨t + 1, h⟩, g) => owns (c : Thread nD τ) (slotM (d, ⟨t, Nat.lt_of_succ_lt h⟩, g)) fullShare (sent m ρ d g (t + 1) c)

omit [FloatOps F] in
instance barPay_storable (d : Bool) (c : Dev nD) : BI.Storable (upEmb : UEmb _ 𝕄) (barPay (F := F) d c) := by
  unfold barPay; infer_instance
instance recvPay_storable (i : Leg) (c : Dev nD) : BI.Storable (upEmb : UEmb _ 𝕄) (recvPay m ρ i c) := by
  unfold recvPay; infer_instance
omit [FloatOps F] in
instance lent_storable (d : Bool) (g : Fin 2) (c : Dev nD) : BI.Storable (upEmb : UEmb _ 𝕄) (lent m ρ d g c) := by
  unfold lent; infer_instance
instance sendPay_storable (i : Leg) (c : Dev nD) : BI.Storable (upEmb : UEmb _ 𝕄) (sendPay m ρ i c) := by
  rcases i with ⟨d, ⟨t, ht⟩, g⟩
  cases t <;> (unfold sendPay; infer_instance)

/-! ## The schedule -/

/-- Which of a device's semaphores the ring uses, and as what. -/
def kindOf : SemLoc sig → Option (Option Port)
  | .reg _ => some none
  | .dma s => (portOf s).map some

theorem kindOf_locOf (k : Option Port) : kindOf (locOf k) = some k := by
  cases k with
  | none => rfl
  | some p => show (portOf (portSem p)).map some = _; rw [portOf_portSem]; rfl
theorem kindOf_bar : kindOf (.reg barS) = some none := rfl
theorem kindOf_port (p : Port) : kindOf (.dma (portSem p)) = some (some p) := kindOf_locOf (some p)

def dutiesOf : Option (Option Port) → Finset Bool
  | some none => Finset.univ
  | some (some _) => {false}
  | none => ∅
def amountOf : Option (Option Port) → ℕ
  | some (some _) => N
  | _ => 1
def payloadOf (c : Dev nD) (d : Bool) : Option (Option Port) → sProp 𝕄
  | some none => barPay d c
  | some (some (true, i)) => recvPay m ρ i c
  | some (some (false, i)) => sendPay m ρ i c
  | none => iprop(emp)

/-- The one-round schedule. -/
def sched : Rounds.Schedule (GSem nD τ sig) Bool 𝕄 where
  duties g r := if r = 0 ∧ g.1.2 = .tc then dutiesOf (kindOf g.2) else ∅
  unitless _ := False
  amount g _ _ := amountOf (kindOf g.2)
  payload g _ d := payloadOf m ρ g.1.1 d (kindOf g.2)
  amount_pos g _ _ _ := by
    rcases kindOf g.2 with _ | _ | _
    · exact Nat.one_pos
    · exact Nat.one_pos
    · exact N_pos

instance sched_payload_storable (g : GSem nD τ sig) (r : ℕ) (d : Bool) :
    BI.Storable (upEmb : UEmb _ 𝕄) ((sched (F := F) m ρ).payload g r d) := by
  show BI.Storable upEmb (payloadOf m ρ g.1.1 d (kindOf g.2))
  rcases kindOf g.2 with _ | _ | ⟨_ | _, i⟩ <;> (unfold payloadOf; infer_instance)

section Tables
variable (c : Dev nD) (i : Leg) (p : Port)

theorem duties_bar : (sched m ρ).duties (barCell c) 0 = Finset.univ := by dsimp only [sched]; exact if_pos ⟨rfl, rfl⟩
theorem duties_port : (sched m ρ).duties ((c : Thread nD τ), .dma (portSem p)) 0 = {false} := by
  dsimp only [sched]; rw [kindOf_port]; exact if_pos ⟨rfl, rfl⟩
theorem duties_later (g : GSem nD τ sig) : ∀ r, 1 ≤ r → (sched m ρ).duties g r = ∅ :=
  fun r hr => by dsimp only [sched]; rw [if_neg fun h => by omega]
theorem amount_bar (d : Bool) : (sched m ρ).amount (barCell c) 0 d = 1 := rfl
theorem amount_port (d : Bool) : (sched m ρ).amount ((c : Thread nD τ), .dma (portSem p)) 0 d = N := by
  dsimp only [sched]; rw [kindOf_port]; rfl
theorem expect_bar : (sched m ρ).expect (barCell c) 0 = 2 := by
  unfold Schedule.expect Schedule.amountOf
  rw [duties_bar, Finset.sum_congr rfl fun d _ => amount_bar m ρ c d, Finset.sum_const, Finset.card_univ, Fintype.card_bool, smul_eq_mul]
theorem expect_port : (sched m ρ).expect ((c : Thread nD τ), .dma (portSem p)) 0 = N := by
  unfold Schedule.expect Schedule.amountOf; rw [duties_port, Finset.sum_singleton, amount_port]
theorem payload_bar (d : Bool) : (sched m ρ).payload (barCell c) 0 d = barPay d c := rfl
theorem payload_recv (d : Bool) : (sched m ρ).payload (recvCell i c) 0 d = recvPay m ρ i c := by
  dsimp only [sched]; rw [kindOf_port]; rfl
theorem payload_send (d : Bool) : (sched m ρ).payload (sendCell i c) 0 d = sendPay m ρ i c := by
  dsimp only [sched]; rw [kindOf_port]; rfl

/-- A barrier's whole round: the slots for both directions. -/
theorem rest_bar : bigSep ((sched m ρ).duties (barCell c) 0 \ ∅) (fun d => (sched m ρ).payload (barCell c) 0 d)
    = iprop(barPay false c ∗ barPay true c) := by
  rw [Finset.sdiff_empty, duties_bar, bigSep_univ_eq_bigSepL [false, true] (by decide) (by decide), bigSepL_cons_cons, bigSepL_singleton]
  rfl
theorem rest_recv : bigSep ((sched m ρ).duties (recvCell i c) 0 \ ∅) (fun d => (sched m ρ).payload (recvCell i c) 0 d) = recvPay m ρ i c := by
  rw [Finset.sdiff_empty, duties_port, bigSep_singleton, payload_recv]
theorem rest_send : bigSep ((sched m ρ).duties (sendCell i c) 0 \ ∅) (fun d => (sched m ρ).payload (sendCell i c) 0 d) = sendPay m ρ i c := by
  rw [Finset.sdiff_empty, duties_port, bigSep_singleton, payload_send]

end Tables

/-! ## What is owed; the order of the waits -/

/-- The legs, in the order the kernel starts them. -/
def order : List Leg :=
  [(false, 0, 0), (true, 0, 0), (false, 0, 1), (true, 0, 1), (false, 1, 0), (true, 1, 0), (false, 1, 1), (true, 1, 1),
   (false, 2, 0), (true, 2, 0), (false, 2, 1), (true, 2, 1)]

theorem order_univ : (Finset.univ : Finset Leg) = order.toFinset := by decide
theorem order_nodup : order.Nodup := by decide

/-- What device `c` owes while the legs of `l` are still to be started: the credit of each at the receiver. -/
def owe (c : Dev nD) : List Leg → CellTallies nD τ sig Unit
  | [] => 0
  | i :: l => owe c l + tallyAt (recvCell i (dst i.1 c)) () N

/-- What device `c` owes at launch: all its legs, and one unit at each neighbour's barrier. -/
def O₁ (c : Dev nD) : CellTallies nD τ sig Unit := owe c order + tallyAt (barCell (src true c)) () 1
def O₀ (c : Dev nD) : CellTallies nD τ sig Unit := O₁ c + tallyAt (barCell (src false c)) () 1

def L (g : GSem nD τ sig) : Finset Unit := if g.1.2 = .tc then {()} else ∅
/-- The level of a semaphore: barriers 1, receive semaphores of hop `t` at `2 + t`, the rest 0. -/
def lvOf : Option (Option Port) → ℕ
  | some none => 1
  | some (some (true, i)) => 2 + i.2.1.val
  | _ => 0
def lv (g : GSem nD τ sig) (_ : Unit) : ℕ := lvOf (kindOf g.2)

theorem L_of_ne (g : GSem nD τ sig) (h : g.1.2 ≠ .tc) : L g = ∅ := if_neg h
theorem L_tc (c : Dev nD) (sm : SemLoc sig) : L ((c : Thread nD τ), sm) = {()} := if_pos rfl
theorem lv_recv (i : Leg) (c : Dev nD) (u : Unit) : lv (recvCell i c) u = 2 + i.2.1.val := by unfold lv; rw [kindOf_port]; rfl

theorem tally_pos {g g' : GSem nD τ sig} {u : Unit} {n : ℕ} (h : 0 < tallyAt g () n g' u) : g' = g := by
  rw [tallyAt_apply] at h
  by_contra hn
  rw [if_neg fun h' => hn h'.1] at h; exact Nat.lt_irrefl 0 h

theorem owe_pos {c : Dev nD} {g : GSem nD τ sig} {u : Unit} : ∀ {l : List Leg}, 0 < owe c l g u → ∃ i ∈ l, g = recvCell i (dst i.1 c)
  | [], h => absurd h (Nat.lt_irrefl 0)
  | i :: l, h => by
    rw [owe, Pi.add_apply, Finsupp.add_apply] at h
    rcases Nat.add_pos_iff_pos_or_pos.mp h with h | h
    · obtain ⟨j, hj, e⟩ := owe_pos h; exact ⟨j, List.mem_cons_of_mem _ hj, e⟩
    · exact ⟨i, List.mem_cons_self, tally_pos h⟩

theorem O₀_pos {c : Dev nD} {g : GSem nD τ sig} {u : Unit} (h : 0 < O₀ c g u) :
    (∃ i : Leg, ∃ c' : Dev nD, g = recvCell i c') ∨ ∃ c' : Dev nD, g = barCell c' := by
  unfold O₀ O₁ at h
  rw [Pi.add_apply, Finsupp.add_apply, Pi.add_apply, Finsupp.add_apply] at h
  rcases Nat.add_pos_iff_pos_or_pos.mp h with h | h
  · rcases Nat.add_pos_iff_pos_or_pos.mp h with h | h
    · obtain ⟨i, -, e⟩ := owe_pos h; exact .inl ⟨i, _, e⟩
    · exact .inr ⟨_, tally_pos h⟩
  · exact .inr ⟨_, tally_pos h⟩

/-- A wait on a semaphore of level `n` is allowed while only semaphores of higher levels are owed. -/
theorem mayWait (c : Dev nD) (sm : SemLoc sig) (n : ℕ) (O : CellTallies nD τ sig Unit) (hsm : lv ((c : Thread nD τ), sm) () ≤ n)
    (hO : ∀ g u, 0 < O g u → g.1.2 = .tc ∧ n < lv g u) : (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by rw [L, if_pos (hO g u hg).1]; exact Finset.mem_singleton_self _)
    (fun p hp => by rw [Finset.mem_singleton.mp hp]; exact hsm)
    (fun g u hg => (hO g u hg).2)

/-- The pipeline's own waits: at launch's debts, and at none. -/
theorem mayWait_stage (c : Dev nD) (q : DmaSem sig) (hq : portOf q = none) (O : CellTallies nD τ sig Unit) (hO : O = O₀ c ∨ O = 0) :
    (levAts L lv : sProp 𝕄) ⊢ MayWait (c : Thread nD τ) (.dma q) () O := by
  have h0 : lv ((c : Thread nD τ), .dma q) () ≤ 0 := by
    show lvOf ((portOf q).map some) ≤ 0; rw [hq]; exact Nat.le_refl 0
  rcases hO with rfl | rfl
  · refine mayWait c _ 0 _ h0 fun g u hg => ?_
    rcases O₀_pos hg with ⟨i, c', rfl⟩ | ⟨c', rfl⟩
    · exact ⟨rfl, by rw [lv_recv]; omega⟩
    · exact ⟨rfl, Nat.one_pos⟩
  · rw [MayWait_zero]; iintro -; iempintro

/-- At its barrier a device owes its legs only. -/
theorem mayWait_bar (c : Dev nD) (l : List Leg) : (levAts L lv : sProp 𝕄) ⊢ MayWait (c : Thread nD τ) (.reg barS) () (owe c l) :=
  mayWait c _ 1 _ (Nat.le_refl 1) fun g u hg => by
    obtain ⟨i, -, rfl⟩ := owe_pos hg; exact ⟨rfl, by rw [lv_recv]; omega⟩

/-- At the receive wait of hop `t` only legs of later hops may still be owed. -/
theorem mayWait_recv (c : Dev nD) (i : Leg) (l : List Leg) (hl : ∀ j ∈ l, i.2.1 < j.2.1) :
    (levAts L lv : sProp 𝕄) ⊢ MayWait (c : Thread nD τ) (.dma (portSem (true, i))) () (owe c l) :=
  mayWait c _ (2 + i.2.1.val) _ (Nat.le_of_eq (lv_recv i c ())) fun g u hg => by
    obtain ⟨j, hj, rfl⟩ := owe_pos hg; exact ⟨rfl, by rw [lv_recv]; exact Nat.add_lt_add_left (hl j hj) 2⟩

end Cert.RingScatter

end
-- ==== Proof.Steps.lean ====
/-
The kernel's steps, each proved once for every leg: starting a copy, waiting for its arrival, waiting until it has read
its source, adding an arrived block to the device's own part of the shard, and writing a finished quadrant.
-/
module

public import proofs.«01_k».proof.Proof.Sched

@[expose] public section

noncomputable section

namespace Cert.RingScatter

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Option Port → ℕ)

abbrev 𝒱₀ : Variants := Variants.none

/-! ## What a device holds -/

/-- What every device knows: every semaphore's invariant, that its round 0 has begun, and the levels. -/
def records : sProp 𝕄 :=
  iprop((bigSep Finset.univ fun ck => cellInv ER (sched m ρ) (K ck) (cellAt ck))
    ∗ (bigSep Finset.univ fun ck => reached ER (cellAt ck) 0) ∗ levAts L lv)

instance records_persistent : BI.Persistent (records m ρ K) := by unfold records; infer_instance

theorem records_inv (ck : Dev nD × Option Port) : records m ρ K ⊢ cellInv ER (sched m ρ) (K ck) (cellAt ck) := by
  unfold records; iintro ⟨H, -, -⟩
  have h : (bigSep Finset.univ fun ck => cellInv ER (sched m ρ) (K ck) (cellAt ck)) ⊢ cellInv ER (sched m ρ) (K ck) (cellAt ck) :=
    bigSep_elim (Finset.mem_univ ck)
  iapply h; iexact H
theorem records_reached (ck : Dev nD × Option Port) : records m ρ K ⊢ reached ER (cellAt ck) 0 := by
  unfold records; iintro ⟨-, H, -⟩
  have h : (bigSep Finset.univ fun ck => (reached ER (cellAt ck) 0 : sProp 𝕄)) ⊢ reached ER (cellAt ck) 0 :=
    bigSep_elim (Finset.mem_univ ck)
  iapply h; iexact H
theorem records_lev : records m ρ K ⊢ levAts L lv := by
  unfold records; iintro ⟨-, -, H⟩; iexact H

/-- What device `c` still owes, whatever it has waited on. -/
def due (c : Dev nD) (l : List Leg) : sProp 𝕄 := iprop(∃ W, owes (c : Thread nD τ) (owe c l) W)

/-- What it takes to start leg `i` on device `c`. -/
def ticket (i : Leg) (c : Dev nD) : sProp 𝕄 :=
  iprop(dutyTok ER (sendCell i c) 0 false ∗ dutyTok ER (recvCell i (dst i.1 c)) 0 false ∗ atPos ER (sendCell i c) 0 ∅ 0)
/-- What it takes to wait on a transfer semaphore of device `c`. -/
def pending (p : Port) (c : Dev nD) : sProp 𝕄 :=
  iprop(atPos ER ((c : Thread nD τ), .dma (portSem p)) 0 ∅ 0 ∗ cred (tallyAt ((c : Thread nD τ), .dma (portSem p)) () N))
/-- A slot owned at some contents. -/
def slotAny (i : Leg) (c : Dev nD) : sProp 𝕄 := ownsSat (c : Thread nD τ) (slotM i) fullShare (fun _ => True)
/-- A slot owned at contents `X`. -/
def slotAt (i : Leg) (c : Dev nD) (X : FVec F S512x256 .f32) : sProp 𝕄 := owns (c : Thread nD τ) (slotM i) fullShare X
/-- A quadrant of the result block owned at contents `X`. -/
def quadAt (dg : Bool × Fin 2) (c : Dev nD) (X : FVec F S512x256 .f32) : sProp 𝕄 :=
  owns (c : Thread nD τ) (oM.slice (oR dg) (fun _ => rfl)) fullShare X
/-- The half share of its input block a device keeps for its own reads. -/
def xHalf (c : Dev nD) : sProp 𝕄 := ((c : Thread nD τ).loc cc0_stg0_0) ↦{fullShare.left} xstg m ρ c

theorem sent_zero (d : Bool) (g : Fin 2) (c : Dev nD) : sent m ρ d g 0 c = (xslot d g (src d c)).view.read (Elt F) (xstg m ρ c) := rfl
theorem sendPay_first (d : Bool) (g : Fin 2) (c : Dev nD) : sendPay m ρ (d, 0, g) c
    = ((xslot d g (src d c)).view.loc (c : Thread nD τ) ↦[(xslot d g (src d c)).view.set]{shr d g} xstg m ρ c) := rfl
theorem sendPay_next (d : Bool) (t : ℕ) (h : t + 1 < 3) (g : Fin 2) (c : Dev nD) : sendPay m ρ (d, ⟨t + 1, h⟩, g) c
    = owns (c : Thread nD τ) (slotM (d, ⟨t, Nat.lt_of_succ_lt h⟩, g)) fullShare (sent m ρ d g (t + 1) c) := rfl

/-- A memref written whole is owned at what was written. -/
theorem owns_written (c : Thread nD τ) {sp : Space} {s : Shape} {e : EltTy} (M : Memref sig c.2.kind sp s e) (f : Buf (Elt F) (M.view.loc c)) (w : s.Idx → Elt F e) :
    (M.view.loc c ↦[M.view.set]{fullShare} (M.view.write (Elt F) f w Finset.univ) : sProp 𝕄) ⊢ owns c M fullShare w := by
  have h := owns_intro (Ix := Unit) (Name := ℕ) (U := UU) (Lvl := ℕ) c M fullShare (M.view.write (Elt F) f w Finset.univ)
  rwa [View.read_write_univ] at h

/-! ## Starting a copy -/

section Copy
/-- Starting leg `i` from a source that holds `sent`: the source and the target slot go with the copy; what comes back is
    the right to wait for the source, and the debt is paid. -/
theorem wp_leg (c n : Dev nD) (i : Leg) (hn : n = dst i.1 c) {sM : Memref sig .tc .vmem S512x256 .f32} {q : PosShare TreeShare}
    {hsc : (slotM i : Memref sig (Dev.tc n : Thread nD τ).2.kind .vmem S512x256 .f32).view.ref.isScScratch = false}
    {hsrc : sM.view.WordExact} {hdst : (slotM i).view.WordExact}
    {hsem : DmaTarget.Typed .vmem (.dma (portSem (true, i)))
      (.remote (Dev.tc n : Thread nD τ) (slotM i : Memref sig .tc .vmem S512x256 .f32) (.dma (portSem (false, i))) hsc)}
    (l : List Leg) (fs : Buf (Elt F) (sM.view.loc (c : Thread nD τ)))
    (hread : sM.view.read (Elt F) fs = sent m ρ i.1 i.2.2 i.2.1 c)
    (hpay : (sM.view.loc (c : Thread nD τ) ↦[sM.view.set]{q} fs) ⊢ sendPay m ρ i c)
    {α : Type} {Post : α → sProp 𝕄} {k : PUnit → Prog (TpuEff nD τ sig (Elt F) Λ₀ .tc) α} :
    iprop(records m ρ K ∗ ticket i c ∗ (sM.view.loc (c : Thread nD τ) ↦[sM.view.set]{q} fs) ∗ slotAny i (dst i.1 c) ∗ due c (i :: l))
      ⊢ iprop(((pending (false, i) c ∗ due c l) -∗ wp frame (wpE (defs₀ (F := F)) 𝒱₀ (c : Thread nD τ) none) Set.univ (k ⟨⟩) Post)
          -∗ wp frame (wpE (defs₀ (F := F)) 𝒱₀ (c : Thread nD τ) none) Set.univ
              (.op (.enqueueDma sM (.remote (Dev.tc n : Thread nD τ) (slotM i) (.dma (portSem (false, i))) hsc) (.dma (portSem (true, i))) hsrc hdst hsem) k) Post) := by
  subst hn
  unfold ticket slotAny ownsSat due
  iintro ⟨#HR, ⟨HtS, HtR, Hat⟩, Hs, ⟨%fd, -, Hd⟩, ⟨%W, HO⟩⟩
  iintro Hk
  ihave HI₁ := (records_inv m ρ K (c, some (false, i))) $$ HR
  ihave HI₂ := (records_inv m ρ K (dst i.1 c, some (true, i))) $$ HR
  ihave Hr₁ := (records_reached m ρ K (c, some (false, i))) $$ HR
  ihave Hr₂ := (records_reached m ρ K (dst i.1 c, some (true, i))) $$ HR
  iapply (Rounds.wp_send_pointsTo 𝒱₀ ER (sched m ρ) (c : Thread nD τ) none (κ₁ := K (c, some (false, i))) (κ₂ := K (dst i.1 c, some (true, i)))
    (r₁ := 0) (r₂ := 0) (d₁ := false) (d₂ := false) (fd := fd) (fs := fs) (q := q)
    (by rw [duties_port]; exact Finset.mem_singleton_self _) (by rw [duties_port]; exact Finset.mem_singleton_self _)
    () () N (by rcases i with ⟨_ | _, t, g⟩ <;> rfl) (amount_port m ρ c _ false) (amount_port m ρ (dst i.1 c) _ false) (owe c l) rfl (W := W)
    (by rw [payload_send]; exact hpay)
    (by
      rw [payload_recv]; unfold recvPay
      rw [src_dst, ← hread]
      exact owns_written (dst i.1 c : Thread nD τ) (slotM i) fd _)) $$ [HI₁ HI₂ Hs Hd HO HtS HtR Hr₁ Hr₂]
  · isplitl [HI₁]; · iexact HI₁
    isplitl [HI₂]; · iexact HI₂
    isplitl [Hs]; · iexact Hs
    isplitl [Hd]; · iexact Hd
    isplitl [HO]; · iexact HO
    isplitl [HtS]; · iexact HtS
    isplitl [Hr₁]; · iexact Hr₁
    isplitl [HtR]; · iexact HtR
    iexact Hr₂
  iintro ⟨Hc, HO⟩
  iapply Hk
  unfold pending
  isplitr [HO]
  · isplitl [Hat]; · iexact Hat
    iexact Hc
  iexists W; iexact HO

/-- Leg `(d, 0, g)`, its source the device's own part of the shard of the device behind. -/
theorem wp_leg_first (c n : Dev nD) (d : Bool) (g : Fin 2) (hn : n = dst d c) {off : Fin 3 → ℕ} (hoff : off = xoff d g (src d c))
    {hin : ∀ a, off a + S1x512x256.size a ≤ S1x1024x2048.size a}
    {hsc : (slotM (d, 0, g) : Memref sig (Dev.tc n : Thread nD τ).2.kind .vmem S512x256 .f32).view.ref.isScScratch = false}
    {hsrc : ((xM.slice (Rect.unit (s := S1x1024x2048) off S1x512x256.size hin) (fun _ => rfl)).squeeze S512x256 squeezes_S1x512x256_S512x256).view.WordExact}
    {hdst : (slotM (d, 0, g)).view.WordExact}
    {hsem : DmaTarget.Typed .vmem (.dma (portSem (true, d, 0, g)))
      (.remote (Dev.tc n : Thread nD τ) (slotM (d, 0, g) : Memref sig .tc .vmem S512x256 .f32) (.dma (portSem (false, d, 0, g))) hsc)}
    (n₀ : ℕ) (hl : order.drop n₀ = (d, 0, g) :: order.drop (n₀ + 1))
    {α : Type} {Post : α → sProp 𝕄} {k : PUnit → Prog (TpuEff nD τ sig (Elt F) Λ₀ .tc) α} :
    iprop(records m ρ K ∗ ticket (d, 0, g) c ∗ lent m ρ d g c ∗ slotAny (d, 0, g) (dst d c) ∗ due c (order.drop n₀))
      ⊢ iprop(((pending (false, d, 0, g) c ∗ due c (order.drop (n₀ + 1))) -∗ wp frame (wpE (defs₀ (F := F)) 𝒱₀ (c : Thread nD τ) none) Set.univ (k ⟨⟩) Post)
          -∗ wp frame (wpE (defs₀ (F := F)) 𝒱₀ (c : Thread nD τ) none) Set.univ
              (.op (.enqueueDma ((xM.slice (Rect.unit (s := S1x1024x2048) off S1x512x256.size hin) (fun _ => rfl)).squeeze S512x256 squeezes_S1x512x256_S512x256)
                (.remote (Dev.tc n : Thread nD τ) (slotM (d, 0, g)) (.dma (portSem (false, d, 0, g))) hsc) (.dma (portSem (true, d, 0, g))) hsrc hdst hsem) k) Post) := by
  subst hoff
  rw [hl]
  exact wp_leg m ρ K c n (d, 0, g) hn (sM := xslot d g (src d c)) (q := shr d g) _ (xstg m ρ c) (sent_zero m ρ d g c).symm
    (Entails.of_eq (sendPay_first m ρ d g c).symm)

/-- Leg `(d, t', g)` of the hop after `t`, its source the slot of hop `t`. -/
theorem wp_leg_next (c n : Dev nD) (d : Bool) (t t' : Fin 3) (ht : t'.val = t.val + 1) (g : Fin 2) (hn : n = dst d c)
    {hsc : (slotM (d, t', g) : Memref sig (Dev.tc n : Thread nD τ).2.kind .vmem S512x256 .f32).view.ref.isScScratch = false}
    {hsrc : (slotM (d, t, g)).view.WordExact} {hdst : (slotM (d, t', g)).view.WordExact}
    {hsem : DmaTarget.Typed .vmem (.dma (portSem (true, d, t', g)))
      (.remote (Dev.tc n : Thread nD τ) (slotM (d, t', g) : Memref sig .tc .vmem S512x256 .f32) (.dma (portSem (false, d, t', g))) hsc)}
    (n₀ : ℕ) (hl : order.drop n₀ = (d, t', g) :: order.drop (n₀ + 1))
    {α : Type} {Post : α → sProp 𝕄} {k : PUnit → Prog (TpuEff nD τ sig (Elt F) Λ₀ .tc) α} :
    iprop(records m ρ K ∗ ticket (d, t', g) c ∗ slotAt (d, t, g) c (sent m ρ d g (t.val + 1) c) ∗ slotAny (d, t', g) (dst d c) ∗ due c (order.drop n₀))
      ⊢ iprop(((pending (false, d, t', g) c ∗ due c (order.drop (n₀ + 1))) -∗ wp frame (wpE (defs₀ (F := F)) 𝒱₀ (c : Thread nD τ) none) Set.univ (k ⟨⟩) Post)
          -∗ wp frame (wpE (defs₀ (F := F)) 𝒱₀ (c : Thread nD τ) none) Set.univ
              (.op (.enqueueDma (slotM (d, t, g)) (.remote (Dev.tc n : Thread nD τ) (slotM (d, t', g)) (.dma (portSem (false, d, t', g))) hsc)
                (.dma (portSem (true, d, t', g))) hsrc hdst hsem) k) Post) := by
  rw [hl]
  obtain ⟨t, h⟩ := t
  obtain ⟨t', h'⟩ := t'
  obtain rfl : t' = t + 1 := ht
  unfold slotAt owns
  iintro ⟨HR, Ht, ⟨%f, %hf, Hs⟩, Hd, HO⟩
  iapply (wp_leg m ρ K c n (d, ⟨t + 1, h'⟩, g) hn _ f (sM := slotM (d, ⟨t, h⟩, g)) hf
    ((owns_intro _ _ _ f).trans (Entails.of_eq (by rw [hf, sendPay_next]))))  $$ [HR Ht Hs Hd HO]
  isplitl [HR]; · iexact HR
  isplitl [Ht]; · iexact Ht
  isplitl [Hs]; · iexact Hs
  isplitl [Hd]; · iexact Hd
  iexact HO

/-! ## The waits -/

/-- Every copy moves one block. -/
theorem credit_eq {sp : Space} (b : Memref sig .tc sp S512x256 .f32) : b.view.dmaCredit = N := rfl

/-- Waiting on a transfer semaphore: its payload, and the semaphore back at zero. -/
theorem wp_port (c : Dev nD) (p : Port) (l : List Leg) {sp sp' : Space} {a : Memref sig .tc sp S512x256 .f32} {b : Memref sig .tc sp' S512x256 .f32}
    {h h'} (P : sProp 𝕄)
    (hP : bigSep ((sched m ρ).duties ((c : Thread nD τ), .dma (portSem p)) 0 \ ∅) (fun d => (sched m ρ).payload ((c : Thread nD τ), .dma (portSem p)) 0 d) = P)
    (hw : (levAts L lv : sProp 𝕄) ⊢ MayWait (c : Thread nD τ) (.dma (portSem p)) () (owe c l))
    {α : Type} {Post : α → sProp 𝕄} {k : PUnit → Prog (TpuEff nD τ sig (Elt F) Λ₀ .tc) α} :
    iprop(records m ρ K ∗ pending p c ∗ due c l)
      ⊢ iprop(((P ∗ semVal ((c : Thread nD τ), .dma (portSem p)) 0 ∗ due c l)
            -∗ wp frame (wpE (defs₀ (F := F)) 𝒱₀ (c : Thread nD τ) none) Set.univ (k ⟨⟩) Post)
          -∗ wp frame (wpE (defs₀ (F := F)) 𝒱₀ (c : Thread nD τ) none) Set.univ (.op (.waitDma2 (portSem p) a b h h') k) Post) := by
  unfold pending due
  iintro ⟨#HR, ⟨Hat, Hc⟩, ⟨%W, HO⟩⟩
  iintro Hk
  ihave HI := (records_inv m ρ K (c, some p)) $$ HR
  iapply (Rounds.wp_wait_rest_token 𝒱₀ ER (sched m ρ) (c : Thread nD τ) none (κ := K (c, some p))
      (wpE_waitDma2_eq 𝒱₀ (c : Thread nD τ) none Set.univ) (Set.mem_univ _) () (O := owe c l) (W := W) (R := 0) (m := 0) (T := ∅)
      (by rw [Nat.zero_add, expect_port, credit_eq])) $$ [HI Hc HO Hat]
  · isplitl [HI]; · iexact HI
    isplitl [Hc]; · rw [credit_eq]; iexact Hc
    isplitl [HO]; · iexact HO
    isplitr; · iapply hw; iapply (records_lev m ρ K); iexact HR
    iexact Hat
  iintro ⟨HO, Hat, -, Hpay⟩
  imod (Rounds.cell_close ER (sched m ρ) (Set.mem_univ (K (c, some p))) (fun h => h) (R := 0 + 1) (duties_later m ρ ((c : Thread nD τ), .dma (portSem p)))) $$ [Hat] with Hz
  · isplitr
    · iapply (records_inv m ρ K (c, some p)); iexact HR
    iexact Hat
  iapply Hk
  isplitl [Hpay]
  · rw [← hP]; iexact Hpay
  isplitl [Hz]; · iexact Hz
  iexists _; iexact HO

/-- Waiting for leg `i` to arrive. -/
theorem wp_recv (c : Dev nD) (i : Leg) (l : List Leg) (hl : ∀ j ∈ l, i.2.1 < j.2.1)
    {sp sp' : Space} {a : Memref sig .tc sp S512x256 .f32} {b : Memref sig .tc sp' S512x256 .f32} {h h'}
    {α : Type} {Post : α → sProp 𝕄} {k : PUnit → Prog (TpuEff nD τ sig (Elt F) Λ₀ .tc) α} :
    iprop(records m ρ K ∗ pending (true, i) c ∗ due c l)
      ⊢ iprop(((slotAt i c (sent m ρ i.1 i.2.2 i.2.1 (src i.1 c)) ∗ semVal (recvCell i c) 0 ∗ due c l)
            -∗ wp frame (wpE (defs₀ (F := F)) 𝒱₀ (c : Thread nD τ) none) Set.univ (k ⟨⟩) Post)
          -∗ wp frame (wpE (defs₀ (F := F)) 𝒱₀ (c : Thread nD τ) none) Set.univ (.op (.waitDma2 (portSem (true, i)) a b h h') k) Post) :=
  wp_port m ρ K c (true, i) l _ (rest_recv m ρ c i) (mayWait_recv c i l hl)

/-- Waiting until leg `i` has read its source, every leg started. -/
theorem wp_sent (c : Dev nD) (i : Leg) {sp sp' : Space} {a : Memref sig .tc sp S512x256 .f32} {b : Memref sig .tc sp' S512x256 .f32} {h h'}
    {α : Type} {Post : α → sProp 𝕄} {k : PUnit → Prog (TpuEff nD τ sig (Elt F) Λ₀ .tc) α} :
    iprop(records m ρ K ∗ pending (false, i) c ∗ due c [])
      ⊢ iprop(((sendPay m ρ i c ∗ semVal (sendCell i c) 0 ∗ due c [])
            -∗ wp frame (wpE (defs₀ (F := F)) 𝒱₀ (c : Thread nD τ) none) Set.univ (k ⟨⟩) Post)
          -∗ wp frame (wpE (defs₀ (F := F)) 𝒱₀ (c : Thread nD τ) none) Set.univ (.op (.waitDma2 (portSem (false, i)) a b h h') k) Post) :=
  wp_port m ρ K c (false, i) [] _ (rest_send m ρ c i) (by rw [owe, MayWait_zero]; iintro -; iempintro)

end Copy

end Cert.RingScatter

end
-- ==== Proof.Sums.lean ====
/-
The two steps that compute: a block that has arrived is added to the device's own part of the shard, into the slot it
arrived in (to be sent on) or, at the last hop, into a quadrant of the result.
-/
module

public import proofs.«01_k».proof.Proof.Steps

@[expose] public section

noncomputable section

namespace Cert.RingScatter

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Option Port → ℕ)

/-- A value of the shape a slot is loaded at, as a block. -/
abbrev asBlock4 (v : Vec F S1x1x512x256 .f32) : FVec F S512x256 .f32 := shapeCast S512x256 v shapeCasts_S1x1x512x256_S512x256
/-- A value of the shape a part of the input is loaded at, as a block. -/
abbrev asBlock3 (v : Vec F S1x512x256 .f32) : FVec F S512x256 .f32 := shapeCast S512x256 v shapeCasts_S1x512x256_S512x256

/-- A block laid out as a slot and read back as a block is itself. -/
theorem asBlock4_of (v : FVec F S512x256 .f32) : asBlock4 (shapeCast S1x1x512x256 v shapeCasts_S512x256_S1x1x512x256) = v :=
  shapeCast_shapeCast v _ _

/-- Written through its rectangle, a slice read as a block is the block written. -/
theorem read_squeeze_write {s s' : Shape} (M : Memref sig .tc .vmem s .f32) (r : Rect s) (hr : ∀ a, r.stride a = 1)
    (hq : r.shape.Squeezes s') (hc : r.shape.ShapeCasts s') (f : M.view.ty.Contents (Elt F)) (w : r.shape.Idx → Elt F .f32) :
    ((M.slice r hr).squeeze s' hq).view.read (Elt F) ((M.access r).write (Elt F) f w Finset.univ) = shapeCast s' w hc :=
  congrArg (fun z => shapeCast s' z hc) (View.read_write_univ (v := M.access r) f w)

section Buffers
variable {α : Type} (c : Dev nD)

/-- Loading a slot through its buffer. -/
theorem wp_load_slot (i : Leg) (X : FVec F S512x256 .f32) {hl}
    {Post : α → sProp 𝕄} {k : Vec F S1x1x512x256 .f32 → Prog (TpuEff nD τ sig (Elt F) Λ₀ .tc) α} :
    slotAt i c X ⊢ iprop((∀ v, ⌜asBlock4 v = X⌝ -∗ slotAt i c X -∗ wp frame (wpE (defs₀ (F := F)) 𝒱₀ (c : Thread nD τ) none) Set.univ (k v) Post)
      -∗ wp frame (wpE (defs₀ (F := F)) 𝒱₀ (c : Thread nD τ) none) Set.univ (.op (.load (bufM i.1) (slotR i.2).toLoadRect hl) k) Post) := by
  unfold slotAt owns
  iintro ⟨%f, %hf, Hs⟩ Hk
  iapply (wp_load_rect 𝒱₀ (c : Thread nD τ) none Set.univ (m := bufM i.1) (r := slotR i.2) (by rw [View.set_reshape])) $$ Hs
  iintro Hs
  ispecialize Hk $$ %(((bufM i.1).access (slotR i.2)).read (Elt F) f)
  iapply Hk
  · ipureintro; exact hf
  iexists f
  isplitr; · ipureintro; exact hf
  iexact Hs

/-- Loading a part of the input. -/
theorem wp_load_x (d : Bool) (g : Fin 2) (k' : Dev nD) {off : Fin 3 → ℕ} (hoff : off = xoff d g k')
    {hin : ∀ a, off a + S1x512x256.size a ≤ S1x1024x2048.size a} {hl}
    {Post : α → sProp 𝕄} {k : Vec F S1x512x256 .f32 → Prog (TpuEff nD τ sig (Elt F) Λ₀ .tc) α} :
    xHalf m ρ c ⊢ iprop((∀ v, ⌜asBlock3 v = piece m ρ d g k' c⌝ -∗ xHalf m ρ c -∗ wp frame (wpE (defs₀ (F := F)) 𝒱₀ (c : Thread nD τ) none) Set.univ (k v) Post)
      -∗ wp frame (wpE (defs₀ (F := F)) 𝒱₀ (c : Thread nD τ) none) Set.univ
          (.op (.load xM (Rect.unit (s := S1x1024x2048) off S1x512x256.size hin).toLoadRect hl) k) Post) := by
  subst hoff
  unfold xHalf
  iintro Hx Hk
  iapply (wp_load_rect 𝒱₀ (c : Thread nD τ) none Set.univ (m := xM) (r := xR d g k') (Finset.subset_univ _)) $$ Hx
  iintro Hx
  ispecialize Hk $$ %((xM.access (xR d g k')).read (Elt F) (xstg m ρ c))
  iapply Hk
  · ipureintro; rfl
  iexact Hx

/-- Storing a slot through its buffer. -/
theorem wp_store_slot (i : Leg) (X : FVec F S512x256 .f32) (w : Vec F S1x1x512x256 .f32) {hx hm}
    {Post : α → sProp 𝕄} {k : PUnit → Prog (TpuEff nD τ sig (Elt F) Λ₀ .tc) α} :
    slotAt i c X ⊢ iprop((slotAt i c (asBlock4 w) -∗ wp frame (wpE (defs₀ (F := F)) 𝒱₀ (c : Thread nD τ) none) Set.univ (k ⟨⟩) Post)
      -∗ wp frame (wpE (defs₀ (F := F)) 𝒱₀ (c : Thread nD τ) none) Set.univ (.op (.store (bufM i.1) (slotR i.2) w Finset.univ hx hm) k) Post) := by
  unfold slotAt owns
  iintro ⟨%f, %hf, Hs⟩ Hk
  iapply (wp_store 𝒱₀ (c : Thread nD τ) none Set.univ (m := bufM i.1) (r := slotR i.2) (Mk := Finset.univ)
    (by rw [View.setOn_univ, View.set_reshape])) $$ Hs
  iintro Hs
  iapply Hk
  iexists (((bufM i.1).access (slotR i.2)).write (Elt F) f w Finset.univ)
  isplitr
  · ipureintro; exact read_squeeze_write (bufM i.1) (slotR i.2) (fun _ => rfl) _ _ f w
  iexact Hs

/-- Loading a quadrant of the result, its value unused. -/
theorem wp_load_quad (dg : Bool × Fin 2) {hl}
    {Post : α → sProp 𝕄} {k : Vec F S512x256 .f32 → Prog (TpuEff nD τ sig (Elt F) Λ₀ .tc) α} :
    (∃ X, quadAt dg c X) ⊢ iprop((∀ v, (∃ X, quadAt dg c X) -∗ wp frame (wpE (defs₀ (F := F)) 𝒱₀ (c : Thread nD τ) none) Set.univ (k v) Post)
      -∗ wp frame (wpE (defs₀ (F := F)) 𝒱₀ (c : Thread nD τ) none) Set.univ (.op (.load oM (oR dg).toLoadRect hl) k) Post) := by
  unfold quadAt owns
  iintro ⟨%X, %f, %hf, Hs⟩ Hk
  iapply (wp_load_rect 𝒱₀ (c : Thread nD τ) none Set.univ (m := oM) (r := oR dg) (Finset.Subset.refl _)) $$ Hs
  iintro Hs
  ispecialize Hk $$ %((oM.access (oR dg)).read (Elt F) f)
  iapply Hk
  iexists X; iexists f
  isplitr; · ipureintro; exact hf
  iexact Hs

/-- Storing a quadrant of the result. -/
theorem wp_store_quad (dg : Bool × Fin 2) (w : FVec F S512x256 .f32) {hx hm}
    {Post : α → sProp 𝕄} {k : PUnit → Prog (TpuEff nD τ sig (Elt F) Λ₀ .tc) α} :
    (∃ X, quadAt dg c X) ⊢ iprop((quadAt dg c w -∗ wp frame (wpE (defs₀ (F := F)) 𝒱₀ (c : Thread nD τ) none) Set.univ (k ⟨⟩) Post)
      -∗ wp frame (wpE (defs₀ (F := F)) 𝒱₀ (c : Thread nD τ) none) Set.univ (.op (.store oM (oR dg) w Finset.univ hx hm) k) Post) := by
  unfold quadAt owns
  iintro ⟨%X, %f, %hf, Hs⟩ Hk
  iapply (wp_store 𝒱₀ (c : Thread nD τ) none Set.univ (m := oM) (r := oR dg) (Mk := Finset.univ)
    (by rw [View.setOn_univ])) $$ Hs
  iintro Hs
  iapply Hk
  iexists ((oM.access (oR dg)).write (Elt F) f w Finset.univ)
  isplitr
  · ipureintro; exact View.read_write_univ f w
  iexact Hs

end Buffers

/-! ## The two steps -/

section Sums
variable {α : Type} (c : Dev nD) (d : Bool) (t : Fin 3) (g : Fin 2)

/-- A HOP: leg `(d, t, g)` arrives, is added to the device's own part of its shard, and waits in its slot to be sent on. -/
theorem wp_hop (l : List Leg) (hl : ∀ j ∈ l, t < j.2.1) {off : Fin 3 → ℕ} (hoff : off = xoff d g (shard d t.val c))
    (pay : Vec F S1x1x512x256 .f32 → Vec F S1x512x256 .f32 → Vec F S1x1x512x256 .f32)
    (hpay : ∀ v w, asBlock4 (pay v w) = addf (asBlock4 v) (asBlock3 w))
    {hin : ∀ a, off a + S1x512x256.size a ≤ S1x1024x2048.size a}
    {sp sp' : Space} {a : Memref sig .tc sp S512x256 .f32} {b : Memref sig .tc sp' S512x256 .f32} {h h'}
    {h₁ h₂ h₃ h₄ h₅} {Post : α → sProp 𝕄} {k : PUnit → Prog (TpuEff nD τ sig (Elt F) Λ₀ .tc) α} :
    iprop(records m ρ K ∗ pending (true, d, t, g) c ∗ due c l ∗ xHalf m ρ c)
      ⊢ iprop(((slotAt (d, t, g) c (sent m ρ d g (t.val + 1) c) ∗ semVal (recvCell (d, t, g) c) 0 ∗ due c l ∗ xHalf m ρ c)
          -∗ wp frame (wpE (defs₀ (F := F)) 𝒱₀ (c : Thread nD τ) none) Set.univ (k ⟨⟩) Post)
        -∗ wp frame (wpE (defs₀ (F := F)) 𝒱₀ (c : Thread nD τ) none) Set.univ
          (.op (.waitDma2 (portSem (true, d, t, g)) a b h h') fun _ =>
            .op (.load (bufM d) (slotR (t, g)).toLoadRect h₁) fun v =>
            .op (.load xM (Rect.unit (s := S1x1024x2048) off S1x512x256.size hin).toLoadRect h₂) fun w =>
            .op (.load (bufM d) (slotR (t, g)).toLoadRect h₃) fun _ =>
            .op (.store (bufM d) (slotR (t, g)) (pay v w) Finset.univ h₄ h₅) k) Post) := by
  iintro ⟨HR, Hp, HO, Hx⟩ Hk
  iapply (wp_recv m ρ K c (d, t, g) l hl) $$ [HR Hp HO]
  · isplitl [HR]; · iexact HR
    isplitl [Hp]; · iexact Hp
    iexact HO
  iintro ⟨Hs, Hz, HO⟩
  iapply (wp_load_slot c (d, t, g) _) $$ Hs
  iintro %v %hv Hs
  iapply (wp_load_x m ρ c d g (shard d t.val c) hoff) $$ Hx
  iintro %w %hw Hx
  iapply (wp_load_slot c (d, t, g) _) $$ Hs
  iintro %v' %hv' Hs
  iapply (wp_store_slot c (d, t, g) _ (pay v w)) $$ Hs
  iintro Hs
  iapply Hk
  isplitl [Hs]
  · rw [hpay, hv, hw]; iexact Hs
  isplitl [Hz]; · iexact Hz
  isplitl [HO]; · iexact HO
  iexact Hx

/-- The LAST hop: leg `(d, 2, g)` arrives, is added to the device's own part of its own shard, and is a quadrant of the result. -/
theorem wp_last {off : Fin 3 → ℕ} (hoff : off = xoff d g (shard d 2 c))
    (pay : Vec F S1x1x512x256 .f32 → Vec F S1x512x256 .f32 → FVec F S512x256 .f32)
    (hpay : ∀ v w, pay v w = addf (asBlock4 v) (asBlock3 w))
    {hin : ∀ a, off a + S1x512x256.size a ≤ S1x1024x2048.size a}
    {sp sp' : Space} {a : Memref sig .tc sp S512x256 .f32} {b : Memref sig .tc sp' S512x256 .f32} {h h'}
    {h₁ h₂ h₃ h₄ h₅} {Post : α → sProp 𝕄} {k : PUnit → Prog (TpuEff nD τ sig (Elt F) Λ₀ .tc) α} :
    iprop(records m ρ K ∗ pending (true, d, 2, g) c ∗ due c [] ∗ xHalf m ρ c ∗ ∃ X, quadAt (d, g) c X)
      ⊢ iprop(((slotAny (d, 2, g) c ∗ quadAt (d, g) c (sent m ρ d g 3 c) ∗ semVal (recvCell (d, 2, g) c) 0 ∗ due c [] ∗ xHalf m ρ c)
          -∗ wp frame (wpE (defs₀ (F := F)) 𝒱₀ (c : Thread nD τ) none) Set.univ (k ⟨⟩) Post)
        -∗ wp frame (wpE (defs₀ (F := F)) 𝒱₀ (c : Thread nD τ) none) Set.univ
          (.op (.waitDma2 (portSem (true, d, 2, g)) a b h h') fun _ =>
            .op (.load (bufM d) (slotR (2, g)).toLoadRect h₁) fun v =>
            .op (.load xM (Rect.unit (s := S1x1024x2048) off S1x512x256.size hin).toLoadRect h₂) fun w =>
            .op (.load oM (oR (d, g)).toLoadRect h₃) fun _ =>
            .op (.store oM (oR (d, g)) (pay v w) Finset.univ h₄ h₅) k) Post) := by
  iintro ⟨HR, Hp, HO, Hx, Hq⟩ Hk
  iapply (wp_recv m ρ K c (d, 2, g) [] (fun j hj => absurd hj List.not_mem_nil)) $$ [HR Hp HO]
  · isplitl [HR]; · iexact HR
    isplitl [Hp]; · iexact Hp
    iexact HO
  iintro ⟨Hs, Hz, HO⟩
  iapply (wp_load_slot c (d, 2, g) _) $$ Hs
  iintro %v %hv Hs
  iapply (wp_load_x m ρ c d g (shard d 2 c) hoff) $$ Hx
  iintro %w %hw Hx
  iapply (wp_load_quad c (d, g)) $$ Hq
  iintro %v' Hq
  iapply (wp_store_quad c (d, g) (pay v w)) $$ Hq
  iintro Hq
  iapply Hk
  isplitl [Hs]
  · unfold slotAny slotAt; iapply (ownsSat_intro (c : Thread nD τ) (slotM (d, 2, g)) fullShare trivial); iexact Hs
  isplitl [Hq]
  · rw [hpay, hv, hw]; iexact Hq
  isplitl [Hz]; · iexact Hz
  isplitl [HO]; · iexact HO
  iexact Hx

end Sums

end Cert.RingScatter

end
-- ==== Proof.Slots.lean ====
/-
The buffers cut into the parts the kernel handles and put together again: a communication buffer into its six slots, the
result block into its four quadrants, and the input block into the half a device keeps and the parts lent to its first
four copies.
-/
module

public import proofs.«01_k».proof.Proof.Steps

@[expose] public section

noncomputable section

namespace Cert.RingScatter

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The communication buffers -/

theorem slotR_disjoint (a b : Fin 3 × Fin 2) (h : a ≠ b) : Disjoint (slotR a).set (slotR b).set := by
  rcases a with ⟨t, g⟩
  rcases b with ⟨t', g'⟩
  by_cases ht : t = t'
  · have hg : g.val ≠ g'.val := fun e => h (by rw [ht, Fin.ext e])
    exact Rect.unit_disjoint (1 : Fin 4) (show g.val + 1 ≤ g'.val ∨ g'.val + 1 ≤ g.val by omega)
  · have ht : t.val ≠ t'.val := fun e => ht (Fin.ext e)
    exact Rect.unit_disjoint (0 : Fin 4) (show t.val + 1 ≤ t'.val ∨ t'.val + 1 ≤ t.val by omega)

theorem slotR_cover : (Finset.univ : Finset (Fin 3 × Fin 2)).biUnion (fun a => (slotR a).set) = Finset.univ := by
  refine Finset.eq_univ_iff_forall.mpr fun j => Finset.mem_biUnion.mpr ⟨(j 0, j 1), Finset.mem_univ _, Rect.mem_set_unit.mpr fun a => ?_⟩
  fin_cases a
  · exact ⟨Nat.le_refl _, Nat.lt_succ_self _⟩
  · exact ⟨Nat.le_refl _, Nat.lt_succ_self _⟩
  · exact ⟨Nat.zero_le _, (j 2).isLt.trans_eq (Nat.zero_add 512).symm⟩
  · exact ⟨Nat.zero_le _, (j 3).isLt.trans_eq (Nat.zero_add 256).symm⟩

/-- A squeezed slice is owned at some contents when the slice is. -/
theorem ownsSat_squeeze (c : Dev nD) {s s' : Shape} (M : Memref sig .tc .vmem s .f32) (hq : s.Squeezes s') :
    (ownsSat (c : Thread nD τ) M fullShare (fun _ => True) : sProp 𝕄) = ownsSat (c : Thread nD τ) (M.squeeze s' hq) fullShare (fun _ => True) := by
  unfold ownsSat
  rw [show (M.squeeze s' hq).view.set = M.view.set from View.set_reshape ..]

/-- The communication buffer of direction `d`, at some contents. -/
def bufAny (d : Bool) (c : Dev nD) : sProp 𝕄 := ownsSat (c : Thread nD τ) (bufM d) fullShare (fun _ => True)

theorem bufAny_false (c : Dev nD) :
    bufAny (F := F) false c = iprop(∃ f : Buf (Elt F) ((c : Thread nD τ).loc cc0_scratch0), ((c : Thread nD τ).loc cc0_scratch0) ↦{fullShare} f) := by
  unfold bufAny ownsSat
  have h : ∀ f : Buf (Elt F) ((c : Thread nD τ).loc cc0_scratch0), iprop(⌜True⌝ ∗ (((c : Thread nD τ).loc cc0_scratch0) ↦{fullShare} f)) = ((((c : Thread nD τ).loc cc0_scratch0) ↦{fullShare} f) : sProp 𝕄) := fun f => by
    have h1 : iprop(⌜True⌝ ∗ (((c : Thread nD τ).loc cc0_scratch0) ↦{fullShare} f)) ⊢ ((((c : Thread nD τ).loc cc0_scratch0) ↦{fullShare} f) : sProp 𝕄) := by iintro ⟨-, H⟩; iexact H
    have h2 : ((((c : Thread nD τ).loc cc0_scratch0) ↦{fullShare} f) : sProp 𝕄) ⊢ iprop(⌜True⌝ ∗ (((c : Thread nD τ).loc cc0_scratch0) ↦{fullShare} f)) := by
      iintro H; isplitr
      · ipureintro; trivial
      · iexact H
    exact Entails.antisymm h1 h2
  simp only [Memref.view_whole, View.set_whole]
  exact congrArg _ (funext h)
theorem bufAny_true (c : Dev nD) :
    bufAny (F := F) true c = iprop(∃ f : Buf (Elt F) ((c : Thread nD τ).loc cc0_scratch1), ((c : Thread nD τ).loc cc0_scratch1) ↦{fullShare} f) := by
  unfold bufAny ownsSat
  have h : ∀ f : Buf (Elt F) ((c : Thread nD τ).loc cc0_scratch1), iprop(⌜True⌝ ∗ (((c : Thread nD τ).loc cc0_scratch1) ↦{fullShare} f)) = ((((c : Thread nD τ).loc cc0_scratch1) ↦{fullShare} f) : sProp 𝕄) := fun f => by
    have h1 : iprop(⌜True⌝ ∗ (((c : Thread nD τ).loc cc0_scratch1) ↦{fullShare} f)) ⊢ ((((c : Thread nD τ).loc cc0_scratch1) ↦{fullShare} f) : sProp 𝕄) := by iintro ⟨-, H⟩; iexact H
    have h2 : ((((c : Thread nD τ).loc cc0_scratch1) ↦{fullShare} f) : sProp 𝕄) ⊢ iprop(⌜True⌝ ∗ (((c : Thread nD τ).loc cc0_scratch1) ↦{fullShare} f)) := by
      iintro H; isplitr
      · ipureintro; trivial
      · iexact H
    exact Entails.antisymm h1 h2
  simp only [Memref.view_whole, View.set_whole]
  exact congrArg _ (funext h)

/-- A communication buffer is its six slots. -/
theorem bufAny_split (d : Bool) (c : Dev nD) : bufAny (F := F) d c ⊢ bigSep Finset.univ fun a : Fin 3 × Fin 2 => slotAny (d, a) c := by
  unfold bufAny slotAny
  refine (ownsSat_mono _ _ _ (Ψ := fun X => ∀ a : Fin 3 × Fin 2, (fun _ => True) (fun j => X ((slotR a).emb j))) fun _ _ _ => trivial).trans ?_
  refine (ownsSat_rects (c : Thread nD τ) (bufM d) fullShare slotR (fun _ _ => rfl) slotR_disjoint slotR_cover (fun _ _ => True)).trans ?_
  exact bigSep_mono fun a _ => Entails.of_eq (ownsSat_squeeze c _ squeezes_S1x1x512x256_S512x256)

/-- And back. -/
theorem bufAny_join (d : Bool) (c : Dev nD) : (bigSep Finset.univ fun a : Fin 3 × Fin 2 => slotAny (d, a) c) ⊢ bufAny (F := F) d c := by
  unfold bufAny slotAny
  refine (bigSep_mono fun a _ => Entails.of_eq (ownsSat_squeeze c ((bufM d).slice (slotR a) (fun _ => rfl)) squeezes_S1x1x512x256_S512x256).symm).trans ?_
  refine (ownsSat_of_rects (c : Thread nD τ) (bufM d) fullShare slotR (fun _ _ => rfl) slotR_disjoint slotR_cover (fun _ _ => True)).trans ?_
  exact ownsSat_mono _ _ _ fun _ _ => trivial

/-! ## The result -/

/-- The result block of device `c`: each quadrant what its direction and row group have summed over the whole ring. -/
def outAt (c : Dev nD) : (cc0_stg1_0 : Ref sig .tc).ty.Contents (Elt F) := fun j : S1024x512.Idx =>
  sent m ρ (decide (256 ≤ (j 1).val)) ⟨(j 0).val / 512, by have := (j 0).isLt; change (j 0).val < 1024 at this; omega⟩ 3 c
    (fun a => match a with
      | ⟨0, _⟩ => ⟨(j 0).val % 512, Nat.mod_lt _ (by decide)⟩
      | ⟨1, _⟩ => ⟨(j 1).val % 256, Nat.mod_lt _ (by decide)⟩)

theorem oR_disjoint (a b : Bool × Fin 2) (h : a ≠ b) : Disjoint (oR a).set (oR b).set := by
  rcases a with ⟨d, g⟩
  rcases b with ⟨d', g'⟩
  by_cases hg : g = g'
  · have hd : d.toNat ≠ d'.toNat := fun e => h (by rw [hg, show d = d' from (by decide : ∀ a b : Bool, a.toNat = b.toNat → a = b) d d' e])
    exact Rect.unit_disjoint (1 : Fin 2) (show 256 * d.toNat + 256 ≤ 256 * d'.toNat ∨ 256 * d'.toNat + 256 ≤ 256 * d.toNat by omega)
  · have hg : g.val ≠ g'.val := fun e => hg (Fin.ext e)
    exact Rect.unit_disjoint (0 : Fin 2) (show 512 * g.val + 512 ≤ 512 * g'.val ∨ 512 * g'.val + 512 ≤ 512 * g.val by omega)

theorem oR_cover : (Finset.univ : Finset (Bool × Fin 2)).biUnion (fun a => (oR a).set) = Finset.univ := by
  refine Finset.eq_univ_iff_forall.mpr fun j => ?_
  have h0 : (j 0).val < 1024 := (j 0).isLt
  have h1 : (j 1).val < 512 := (j 1).isLt
  refine Finset.mem_biUnion.mpr ⟨(decide (256 ≤ (j 1).val), ⟨(j 0).val / 512, by omega⟩), Finset.mem_univ _, Rect.mem_set_unit.mpr fun a => ?_⟩
  fin_cases a
  · show 512 * ((j 0).val / 512) ≤ (j 0).val ∧ (j 0).val < 512 * ((j 0).val / 512) + 512
    omega
  · show 256 * (decide (256 ≤ (j 1).val)).toNat ≤ (j 1).val ∧ (j 1).val < 256 * (decide (256 ≤ (j 1).val)).toNat + 256
    by_cases h : 256 ≤ (j 1).val
    · rw [decide_eq_true h]; show 256 * 1 ≤ _ ∧ _ < 256 * 1 + 256; omega
    · rw [decide_eq_false h]; show 256 * 0 ≤ _ ∧ _ < 256 * 0 + 256; omega

/-- Each quadrant of the result holds what its direction and row group have summed. -/
theorem outAt_quad (c : Dev nD) (dg : Bool × Fin 2) (j : S512x256.Idx) : outAt m ρ c ((oR dg).emb j) = sent m ρ dg.1 dg.2 3 c j := by
  obtain ⟨d, g⟩ := dg
  have h0 : (j 0).val < 512 := (j 0).isLt
  have h1 : (j 1).val < 256 := (j 1).isLt
  have e0 : (((oR (d, g)).emb j) 0).val = 512 * g.val + (j 0).val := by
    simp [oR, ooff, Rect.unit, Rect.emb]
  have e1 : (((oR (d, g)).emb j) 1).val = 256 * d.toNat + (j 1).val := by
    simp [oR, ooff, Rect.unit, Rect.emb]
  unfold outAt
  have ed : decide (256 ≤ (((oR (d, g)).emb j) 1).val) = d := by
    rw [e1]; cases d
    · exact decide_eq_false (by show ¬ 256 ≤ 256 * 0 + _; omega)
    · exact decide_eq_true (by show 256 ≤ 256 * 1 + _; omega)
  have eg : (((oR (d, g)).emb j) 0).val / 512 = g.val := by rw [e0]; omega
  have em0 : (((oR (d, g)).emb j) 0).val % 512 = (j 0).val := by rw [e0]; omega
  have em1 : (((oR (d, g)).emb j) 1).val % 256 = (j 1).val := by rw [e1]; omega
  have key : ∀ (d' : Bool) (g' : Fin 2) (j' : S512x256.Idx), d' = d → g' = g → j' = j → sent m ρ d' g' 3 c j' = sent m ρ d g 3 c j := by
    rintro _ _ _ rfl rfl rfl; rfl
  refine key _ _ _ ed (Fin.ext eg) (funext fun a => ?_)
  match a with
  | ⟨0, _⟩ => exact Fin.ext em0
  | ⟨1, _⟩ => exact Fin.ext em1

/-- The result block is its four quadrants, -/
theorem out_split (c : Dev nD) (f : Buf (Elt F) ((c : Thread nD τ).loc cc0_stg1_0)) :
    ((((c : Thread nD τ).loc cc0_stg1_0) ↦{fullShare} f) : sProp 𝕄) ⊢ bigSep Finset.univ fun dg : Bool × Fin 2 => iprop(∃ X, quadAt dg c X) := by
  rw [← owns_whole (c : Thread nD τ) cc0_stg1_0 fullShare f]
  refine (owns_rects (c : Thread nD τ) oM fullShare oR (fun _ _ => rfl) oR_disjoint oR_cover f).trans ?_
  refine bigSep_mono fun dg _ => ?_
  have h : (owns (c : Thread nD τ) (oM.slice (oR dg) (fun _ => rfl)) fullShare (fun j => f ((oR dg).emb j)) : sProp 𝕄) ⊢ iprop(∃ X, quadAt dg c X) := by
    unfold quadAt; iintro H; iexists _; iexact H
  exact h
/-- and back, at the result. -/
theorem out_join (c : Dev nD) :
    (bigSep Finset.univ fun dg : Bool × Fin 2 => quadAt dg c (sent m ρ dg.1 dg.2 3 c)) ⊢ ((((c : Thread nD τ).loc cc0_stg1_0) ↦{fullShare} outAt m ρ c) : sProp 𝕄) := by
  rw [← owns_whole (c : Thread nD τ) cc0_stg1_0 fullShare (outAt m ρ c)]
  have h : ∀ dg : Bool × Fin 2, quadAt dg c (sent m ρ dg.1 dg.2 3 c)
      ⊢ (owns (c : Thread nD τ) (oM.slice (oR dg) (fun _ => rfl)) fullShare (fun j => outAt m ρ c ((oR dg).emb j)) : sProp 𝕄) := fun dg => by
    rw [show (fun j => outAt m ρ c ((oR dg).emb j)) = sent m ρ dg.1 dg.2 3 c from funext (outAt_quad m ρ c dg)]
    unfold quadAt
    iintro H; iexact H
  exact (bigSep_mono fun dg _ => h dg).trans (owns_of_rects (c : Thread nD τ) oM fullShare oR (fun _ _ => rfl) oR_disjoint oR_cover (outAt m ρ c))

/-! ## The input -/

/-- What stays behind of the share lent to a first copy: the rest of the block. -/
def kept (d : Bool) (g : Fin 2) (c : Dev nD) : sProp 𝕄 :=
  ((c : Thread nD τ).loc cc0_stg0_0) ↦[Finset.univ \ (xslot d g (src d c)).view.set]{shr d g} xstg m ρ c

theorem lend (d : Bool) (g : Fin 2) (c : Dev nD) :
    ((((c : Thread nD τ).loc cc0_stg0_0) ↦{shr d g} xstg m ρ c) : sProp 𝕄) ⊣⊢ iprop(lent m ρ d g c ∗ kept m ρ d g c) :=
  pointsTo_split_subset (Finset.subset_univ _)

/-- The input block is the half the device keeps and what it lends its first four copies, -/
theorem x_split (c : Dev nD) :
    ((((c : Thread nD τ).loc cc0_stg0_0) ↦{fullShare} xstg m ρ c) : sProp 𝕄) ⊢ iprop(xHalf m ρ c
      ∗ (lent m ρ false 0 c ∗ kept m ρ false 0 c) ∗ (lent m ρ false 1 c ∗ kept m ρ false 1 c)
      ∗ (lent m ρ true 0 c ∗ kept m ρ true 0 c) ∗ (lent m ρ true 1 c ∗ kept m ρ true 1 c)) := by
  unfold xHalf
  iintro H
  ihave H := (pointsTo_share (PosShare.mem_left_op_right fullShare)).1 $$ H
  icases H with ⟨Hh, H⟩
  ihave H := (pointsTo_share (PosShare.mem_left_op_right fullShare.right)).1 $$ H
  icases H with ⟨HA, HB⟩
  ihave H := (pointsTo_share (PosShare.mem_left_op_right fullShare.right.left)).1 $$ HA
  icases H with ⟨HA0, HA1⟩
  ihave H := (pointsTo_share (PosShare.mem_left_op_right fullShare.right.right)).1 $$ HB
  icases H with ⟨HB0, HB1⟩
  isplitl [Hh]; · iexact Hh
  isplitl [HA0]; · iapply (lend m ρ false 0 c).1; iexact HA0
  isplitl [HA1]; · iapply (lend m ρ false 1 c).1; iexact HA1
  isplitl [HB0]; · iapply (lend m ρ true 0 c).1; iexact HB0
  iapply (lend m ρ true 1 c).1; iexact HB1

/-- and back. -/
theorem x_join (c : Dev nD) :
    iprop(xHalf m ρ c
      ∗ (lent m ρ false 0 c ∗ kept m ρ false 0 c) ∗ (lent m ρ false 1 c ∗ kept m ρ false 1 c)
      ∗ (lent m ρ true 0 c ∗ kept m ρ true 0 c) ∗ (lent m ρ true 1 c ∗ kept m ρ true 1 c))
      ⊢ ((((c : Thread nD τ).loc cc0_stg0_0) ↦{fullShare} xstg m ρ c) : sProp 𝕄) := by
  unfold xHalf
  iintro ⟨Hh, HA0, HA1, HB0, HB1⟩
  ihave HA0 := (lend m ρ false 0 c).2 $$ HA0
  ihave HA1 := (lend m ρ false 1 c).2 $$ HA1
  ihave HB0 := (lend m ρ true 0 c).2 $$ HB0
  ihave HB1 := (lend m ρ true 1 c).2 $$ HB1
  iapply (pointsTo_share (PosShare.mem_left_op_right fullShare)).2
  isplitl [Hh]; · iexact Hh
  iapply (pointsTo_share (PosShare.mem_left_op_right fullShare.right)).2
  isplitl [HA0 HA1]
  · iapply (pointsTo_share (PosShare.mem_left_op_right fullShare.right.left)).2
    isplitl [HA0]; · iexact HA0
    iexact HA1
  · iapply (pointsTo_share (PosShare.mem_left_op_right fullShare.right.right)).2
    isplitl [HB0]; · iexact HB0
    iexact HB1

end Cert.RingScatter

end
-- ==== Proof.Body.lean ====
/-
One device's run of the kernel body: from its input block, its buffers and what it takes to start and await its copies, to
the result block, step by step in program order.
-/
module

public import proofs.«01_k».proof.Proof.Sums
public import proofs.«01_k».proof.Proof.Slots

@[expose] public section

noncomputable section

namespace Cert.RingScatter

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Option Port → ℕ)

/-! ## Lists -/

omit [FloatOps F] in
/-- Slots, listed. -/
theorem six (Φ : Fin 3 × Fin 2 → sProp 𝕄) : bigSep Finset.univ Φ = iprop(Φ (0, 0) ∗ Φ (0, 1) ∗ Φ (1, 0) ∗ Φ (1, 1) ∗ Φ (2, 0) ∗ Φ (2, 1)) := by
  rw [bigSep_univ_eq_bigSepL [(0, 0), (0, 1), (1, 0), (1, 1), (2, 0), (2, 1)] (by decide) (by decide)]
  simp only [bigSepL_cons_cons, bigSepL_singleton]; rfl
omit [FloatOps F] in
/-- Quadrants, listed. -/
theorem four (Φ : Bool × Fin 2 → sProp 𝕄) : bigSep Finset.univ Φ = iprop(Φ (false, 0) ∗ Φ (true, 0) ∗ Φ (false, 1) ∗ Φ (true, 1)) := by
  rw [bigSep_univ_eq_bigSepL [(false, 0), (true, 0), (false, 1), (true, 1)] (by decide) (by decide)]
  simp only [bigSepL_cons_cons, bigSepL_singleton]; rfl
omit [FloatOps F] in
/-- Legs, listed in the order they start. -/
theorem twelve (Φ : Leg → sProp 𝕄) : bigSep Finset.univ Φ = iprop(Φ (false, 0, 0) ∗ Φ (true, 0, 0) ∗ Φ (false, 0, 1) ∗ Φ (true, 0, 1)
    ∗ Φ (false, 1, 0) ∗ Φ (true, 1, 0) ∗ Φ (false, 1, 1) ∗ Φ (true, 1, 1) ∗ Φ (false, 2, 0) ∗ Φ (true, 2, 0) ∗ Φ (false, 2, 1) ∗ Φ (true, 2, 1)) := by
  rw [bigSep_univ_eq_bigSepL order order_univ order_nodup]
  simp only [order, bigSepL_cons_cons, bigSepL_singleton]; rfl

/-! ## Payloads of the sums -/

theorem pay1_eq (v : Vec F S1x1x512x256 .f32) (w : Vec F S1x512x256 .f32) : asBlock4 (k0_pay1 v w) = addf (asBlock4 v) (asBlock3 w) := asBlock4_of _
theorem pay4_eq (v : Vec F S1x1x512x256 .f32) (w : Vec F S1x512x256 .f32) : asBlock4 (k0_pay4 (k0_pay3 v) w) = addf (asBlock4 v) (asBlock3 w) := asBlock4_of _
theorem pay11_eq (v : Vec F S1x1x512x256 .f32) (w : Vec F S1x512x256 .f32) : k0_pay11 v w = addf (asBlock4 v) (asBlock3 w) := rfl

/-! ## What the body starts from and ends with -/

/-- A device's ghost state: the records, its barrier's, a ticket for each leg, and its right to wait for each arrival. -/
def ghost (c : Dev nD) : sProp 𝕄 :=
  iprop(records m ρ K
    ∗ (dutyTok ER (barCell (src false c)) 0 false ∗ dutyTok ER (barCell (src true c)) 0 true ∗ atPos ER (barCell c) 0 ∅ 0 ∗ cred (tallyAt (barCell c) () 2))
    ∗ (bigSep Finset.univ fun i => ticket i c) ∗ (bigSep Finset.univ fun i => pending (true, i) c))

/-- The two communication buffers, at some contents. -/
def bufs (c : Dev nD) : sProp 𝕄 := iprop(bufAny false c ∗ bufAny true c)

/-- Every transfer semaphore of a device back at zero. -/
def zeros (c : Dev nD) : sProp 𝕄 :=
  iprop((bigSep Finset.univ fun i => semVal (sendCell i c) 0) ∗ (bigSep Finset.univ fun i => semVal (recvCell i c) 0))

def bodyPre (c : Dev nD) : sProp 𝕄 :=
  iprop(ghost m ρ K c ∗ bufs c ∗ (∃ W, owes (c : Thread nD τ) (O₀ c) W)
    ∗ (((c : Thread nD τ).loc cc0_stg0_0) ↦{fullShare} xstg m ρ c)
    ∗ ∃ f : Buf (Elt F) ((c : Thread nD τ).loc cc0_stg1_0), ((c : Thread nD τ).loc cc0_stg1_0) ↦{fullShare} f)

def bodyPost (c : Dev nD) : sProp 𝕄 :=
  iprop(bufs c ∗ zeros c ∗ semVal (barCell c) 0 ∗ (∃ W, owes (c : Thread nD τ) 0 W)
    ∗ (((c : Thread nD τ).loc cc0_stg0_0) ↦{fullShare} xstg m ρ c)
    ∗ (((c : Thread nD τ).loc cc0_stg1_0) ↦{fullShare} outAt m ρ c))

theorem slotAt_any (i : Leg) (c : Dev nD) (X : FVec F S512x256 .f32) : slotAt i c X ⊢ slotAny i c := by
  unfold slotAt slotAny
  exact ownsSat_intro (c : Thread nD τ) (slotM i) fullShare trivial

/-- A first copy's source, back from it, is what was lent; -/
theorem sendPay_lent (d : Bool) (g : Fin 2) (c : Dev nD) : sendPay m ρ (d, 0, g) c ⊢ lent m ρ d g c := Entails.of_eq rfl
/-- a later copy's source, back from it, is its slot again. -/
theorem sendPay_any (d : Bool) (t : Fin 2) (g : Fin 2) (c : Dev nD) : sendPay m ρ (d, t.succ, g) c ⊢ slotAny (d, t.castSucc, g) c := by
  obtain ⟨t, h⟩ := t
  exact slotAt_any (d, ⟨t, Nat.lt_succ_of_lt h⟩, g) c _

/-- A barrier's payment for direction `d` is the target slots of the device's copies in that direction, -/
theorem barPay_slots (d : Bool) (c : Dev nD) : barPay (F := F) d c = bigSep Finset.univ fun a : Fin 3 × Fin 2 => slotAny (d, a) (dst d c) := rfl
/-- paid with the receiver's own buffer. -/
theorem barPay_of (d : Bool) (c : Dev nD) : bufAny d c ⊢ barPay (F := F) d (src d c) := by
  rw [barPay_slots, dst_src]; exact bufAny_split d c

/-! ## The run -/

set_option maxHeartbeats 16000000 in
/-- The body, from `bodyPre` to `bodyPost`. -/
theorem body_run (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3 cc0_scratch4 cc0_scratch5) Kt := by
  simp only [cc0_body_eq_skeleton]; unfold cc0_body_skel
  simp only [k0_part21_eq_skeleton]; unfold k0_part21_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel
  simp only [semSignalWord, semWaitWord, Prog.lift, Prog.bind_op, Prog.bind_ret, Prog.pure_eq_ret, wp_deviceId]
  unfold bodyPre ghost bufs
  rw [twelve, twelve]
  iintro ⟨⟨⟨#HR, ⟨HtA, HtB, HatB, HcB⟩, ⟨TA00, TB00, TA01, TB01, TA10, TB10, TA11, TB11, TA20, TB20, TA21, TB21⟩,
    ⟨PA00, PB00, PA01, PB01, PA10, PB10, PA11, PB11, PA20, PB20, PA21, PB21⟩⟩, ⟨HbA, HbB⟩, ⟨%W, HO⟩, Hx, ⟨%f, Hout⟩⟩, Hk⟩
  ihave Hx := (x_split m ρ c) $$ Hx
  icases Hx with ⟨Hx, ⟨LA0, KA0⟩, ⟨LA1, KA1⟩, ⟨LB0, KB0⟩, ⟨LB1, KB1⟩⟩
  ihave Hq := (out_split c f) $$ Hout
  ihave Hq := (Entails.of_eq (four _)) $$ Hq
  icases Hq with ⟨QA0, QB0, QA1, QB1⟩
  simp only [dev1_eq c, dev2_eq c]
  -- the two signals, each with this device's own buffer for one direction
  iapply (Rounds.wp_signal 𝒱₀ ER (sched m ρ) (c : Thread nD τ) none (dst := (src false c : Thread nD τ)) (κ := K (src false c, none))
      (d := false) (by rw [duties_bar]; exact Finset.mem_univ _) ((amount_bar m ρ (src false c) false).trans (by decide)) () (O₁ c) rfl)
    $$ [HO HtA HbA]
  · isplitr; · iapply (records_inv m ρ K (src false c, none)); iexact HR
    isplitl [HO]; · iexact HO
    isplitl [HtA]; · iexact HtA
    isplitl [HbA]
    · rw [payload_bar]; iapply (barPay_of false c); iexact HbA
    iapply (records_reached m ρ K (src false c, none)); iexact HR
  iintro HO
  unfold O₁
  iapply (Rounds.wp_signal 𝒱₀ ER (sched m ρ) (c : Thread nD τ) none (dst := (src true c : Thread nD τ)) (κ := K (src true c, none))
      (d := true) (by rw [duties_bar]; exact Finset.mem_univ _) ((amount_bar m ρ (src true c) true).trans (by decide)) () (owe c order) rfl)
    $$ [HO HtB HbB]
  · isplitr; · iapply (records_inv m ρ K (src true c, none)); iexact HR
    isplitl [HO]; · iexact HO
    isplitl [HtB]; · iexact HtB
    isplitl [HbB]
    · rw [payload_bar]; iapply (barPay_of true c); iexact HbB
    iapply (records_reached m ρ K (src true c, none)); iexact HR
  iintro HO
  -- the wait for both neighbours: their slots come with it
  iapply (Rounds.wp_wait_rest_token 𝒱₀ ER (sched m ρ) (c : Thread nD τ) none (κ := K (c, none))
      (wpE_semWait_eq 𝒱₀ (c : Thread nD τ) none Set.univ) (Set.mem_univ _) () (O := owe c order) (W := W) (R := 0) (m := 0) (T := ∅)
      (by rw [expect_bar]; decide)) $$ [HcB HO HatB]
  · isplitr; · iapply (records_inv m ρ K (c, none)); iexact HR
    isplitl [HcB]; · iexact HcB
    isplitl [HO]; · iexact HO
    isplitr; · iapply (mayWait_bar c order); iapply (records_lev m ρ K); iexact HR
    iexact HatB
  iintro ⟨HO, HatB, -, Hpay⟩
  imod (Rounds.cell_close ER (sched m ρ) (Set.mem_univ (K (c, none))) (fun h => h) (R := 0 + 1) (duties_later m ρ (barCell c))) $$ [HatB] with ZB
  · isplitr; · iapply (records_inv m ρ K (c, none)); iexact HR
    iexact HatB
  ihave Hp := (Entails.of_eq (rest_bar m ρ c)) $$ Hpay
  icases Hp with ⟨HpA, HpB⟩
  ihave HpA := (Entails.of_eq ((barPay_slots false c).trans (six _))) $$ HpA
  icases HpA with ⟨SA00, SA01, SA10, SA11, SA20, SA21⟩
  ihave HpB := (Entails.of_eq ((barPay_slots true c).trans (six _))) $$ HpB
  icases HpB with ⟨SB00, SB01, SB10, SB11, SB20, SB21⟩
  ihave HO : iprop(due c (order.drop 0)) $$ [HO]
  · unfold due; iexists _; iexact HO
  -- hop 0
  iapply (wp_leg_first m ρ K c _ false 0 (dev3_eq c) (off1_eq c) 0 rfl) $$ [TA00 LA0 SA00 HO]
  · iframe; iexact HR
  iintro ⟨WA00, HO⟩
  iapply (wp_leg_first m ρ K c _ true 0 (dev4_eq c) (off2_eq c) 1 rfl) $$ [TB00 LB0 SB00 HO]
  · iframe; iexact HR
  iintro ⟨WB00, HO⟩
  iapply (wp_leg_first m ρ K c _ false 1 (dev5_eq c) (off3_eq c) 2 rfl) $$ [TA01 LA1 SA01 HO]
  · iframe; iexact HR
  iintro ⟨WA01, HO⟩
  iapply (wp_leg_first m ρ K c _ true 1 (dev6_eq c) (off4_eq c) 3 rfl) $$ [TB01 LB1 SB01 HO]
  · iframe; iexact HR
  iintro ⟨WB01, HO⟩
  -- hop 1: each leg of hop 0 arrives, is added to, and goes on
  iapply (wp_hop m ρ K c false 0 0 (order.drop 4) (by decide) (off5_eq c 0) k0_pay1 pay1_eq) $$ [PA00 HO Hx]
  · iframe; iexact HR
  iintro ⟨RA, ZA00, HO, Hx⟩
  iapply (wp_leg_next m ρ K c _ false 0 1 rfl 0 (dev7_eq c) 4 rfl) $$ [TA10 RA SA10 HO]
  · iframe; iexact HR
  iintro ⟨WA10, HO⟩
  iapply (wp_hop m ρ K c true 0 0 (order.drop 5) (by decide) (off6_eq c 0) k0_pay2 pay1_eq) $$ [PB00 HO Hx]
  · iframe; iexact HR
  iintro ⟨RB, ZB00, HO, Hx⟩
  iapply (wp_leg_next m ρ K c _ true 0 1 rfl 0 (dev8_eq c) 5 rfl) $$ [TB10 RB SB10 HO]
  · iframe; iexact HR
  iintro ⟨WB10, HO⟩
  iapply (wp_hop m ρ K c false 0 1 (order.drop 6) (by decide) (off7_eq c 0) (fun v w => k0_pay4 (k0_pay3 v) w) pay1_eq) $$ [PA01 HO Hx]
  · iframe; iexact HR
  iintro ⟨RA, ZA01, HO, Hx⟩
  iapply (wp_leg_next m ρ K c _ false 0 1 rfl 1 (dev9_eq c) 6 rfl) $$ [TA11 RA SA11 HO]
  · iframe; iexact HR
  iintro ⟨WA11, HO⟩
  iapply (wp_hop m ρ K c true 0 1 (order.drop 7) (by decide) (off8_eq c 0) k0_pay5 pay1_eq) $$ [PB01 HO Hx]
  · iframe; iexact HR
  iintro ⟨RB, ZB01, HO, Hx⟩
  iapply (wp_leg_next m ρ K c _ true 0 1 rfl 1 (dev10_eq c) 7 rfl) $$ [TB11 RB SB11 HO]
  · iframe; iexact HR
  iintro ⟨WB11, HO⟩
  -- hop 2
  iapply (wp_hop m ρ K c false 1 0 (order.drop 8) (by decide) (off5_eq c 1) (fun v w => k0_pay7 (k0_pay6 v) w) pay1_eq) $$ [PA10 HO Hx]
  · iframe; iexact HR
  iintro ⟨RA, ZA10, HO, Hx⟩
  iapply (wp_leg_next m ρ K c _ false 1 2 rfl 0 (dev11_eq c) 8 rfl) $$ [TA20 RA SA20 HO]
  · iframe; iexact HR
  iintro ⟨WA20, HO⟩
  iapply (wp_hop m ρ K c true 1 0 (order.drop 9) (by decide) (off6_eq c 1) k0_pay8 pay1_eq) $$ [PB10 HO Hx]
  · iframe; iexact HR
  iintro ⟨RB, ZB10, HO, Hx⟩
  iapply (wp_leg_next m ρ K c _ true 1 2 rfl 0 (dev12_eq c) 9 rfl) $$ [TB20 RB SB20 HO]
  · iframe; iexact HR
  iintro ⟨WB20, HO⟩
  iapply (wp_hop m ρ K c false 1 1 (order.drop 10) (by decide) (off7_eq c 1) k0_pay9 pay1_eq) $$ [PA11 HO Hx]
  · iframe; iexact HR
  iintro ⟨RA, ZA11, HO, Hx⟩
  iapply (wp_leg_next m ρ K c _ false 1 2 rfl 1 (dev13_eq c) 10 rfl) $$ [TA21 RA SA21 HO]
  · iframe; iexact HR
  iintro ⟨WA21, HO⟩
  iapply (wp_hop m ρ K c true 1 1 (order.drop 11) (by decide) (off8_eq c 1) k0_pay10 pay1_eq) $$ [PB11 HO Hx]
  · iframe; iexact HR
  iintro ⟨RB, ZB11, HO, Hx⟩
  iapply (wp_leg_next m ρ K c _ true 1 2 rfl 1 (dev14_eq c) 11 rfl) $$ [TB21 RB SB21 HO]
  · iframe; iexact HR
  iintro ⟨WB21, HO⟩
  -- the last arrivals, each a quadrant of the result
  ihave HO : iprop(due c []) $$ [HO]
  · iexact HO
  iapply (wp_last m ρ K c false 0 (off9_eq c) k0_pay11 pay11_eq) $$ [PA20 HO Hx QA0]
  · iframe; iexact HR
  iintro ⟨SA20, QA0, ZA20, HO, Hx⟩
  iapply (wp_last m ρ K c true 0 (off10_eq c) k0_pay12 pay11_eq) $$ [PB20 HO Hx QB0]
  · iframe; iexact HR
  iintro ⟨SB20, QB0, ZB20, HO, Hx⟩
  iapply (wp_last m ρ K c false 1 (off11_eq c) k0_pay13 pay11_eq) $$ [PA21 HO Hx QA1]
  · iframe; iexact HR
  iintro ⟨SA21, QA1, ZA21, HO, Hx⟩
  iapply (wp_last m ρ K c true 1 (off12_eq c) k0_pay14 pay11_eq) $$ [PB21 HO Hx QB1]
  · iframe; iexact HR
  iintro ⟨SB21, QB1, ZB21, HO, Hx⟩
  -- the copies' sources
  iapply (wp_sent m ρ K c (false, 0, 0)) $$ [WA00 HO]
  · iframe; iexact HR
  iintro ⟨BA00, YA00, HO⟩
  iapply (wp_sent m ρ K c (true, 0, 0)) $$ [WB00 HO]
  · iframe; iexact HR
  iintro ⟨BB00, YB00, HO⟩
  iapply (wp_sent m ρ K c (false, 0, 1)) $$ [WA01 HO]
  · iframe; iexact HR
  iintro ⟨BA01, YA01, HO⟩
  iapply (wp_sent m ρ K c (true, 0, 1)) $$ [WB01 HO]
  · iframe; iexact HR
  iintro ⟨BB01, YB01, HO⟩
  iapply (wp_sent m ρ K c (false, 1, 0)) $$ [WA10 HO]
  · iframe; iexact HR
  iintro ⟨BA10, YA10, HO⟩
  iapply (wp_sent m ρ K c (true, 1, 0)) $$ [WB10 HO]
  · iframe; iexact HR
  iintro ⟨BB10, YB10, HO⟩
  iapply (wp_sent m ρ K c (false, 1, 1)) $$ [WA11 HO]
  · iframe; iexact HR
  iintro ⟨BA11, YA11, HO⟩
  iapply (wp_sent m ρ K c (true, 1, 1)) $$ [WB11 HO]
  · iframe; iexact HR
  iintro ⟨BB11, YB11, HO⟩
  iapply (wp_sent m ρ K c (false, 2, 0)) $$ [WA20 HO]
  · iframe; iexact HR
  iintro ⟨BA20, YA20, HO⟩
  iapply (wp_sent m ρ K c (true, 2, 0)) $$ [WB20 HO]
  · iframe; iexact HR
  iintro ⟨BB20, YB20, HO⟩
  iapply (wp_sent m ρ K c (false, 2, 1)) $$ [WA21 HO]
  · iframe; iexact HR
  iintro ⟨BA21, YA21, HO⟩
  iapply (wp_sent m ρ K c (true, 2, 1)) $$ [WB21 HO]
  · iframe; iexact HR
  iintro ⟨BB21, YB21, HO⟩
  rw [wp_ret]; imodintro
  iapply Hk
  unfold bodyPost bufs zeros
  isplitl [BA10 BA11 BA20 BA21 SA20 SA21 BB10 BB11 BB20 BB21 SB20 SB21]
  · isplitl [BA10 BA11 BA20 BA21 SA20 SA21]
    · iapply (bufAny_join false c); iapply (Entails.of_eq (six _).symm)
      isplitl [BA10]; · iapply (sendPay_any m ρ false 0 0 c); iexact BA10
      isplitl [BA11]; · iapply (sendPay_any m ρ false 0 1 c); iexact BA11
      isplitl [BA20]; · iapply (sendPay_any m ρ false 1 0 c); iexact BA20
      isplitl [BA21]; · iapply (sendPay_any m ρ false 1 1 c); iexact BA21
      isplitl [SA20] <;> iassumption
    · iapply (bufAny_join true c); iapply (Entails.of_eq (six _).symm)
      isplitl [BB10]; · iapply (sendPay_any m ρ true 0 0 c); iexact BB10
      isplitl [BB11]; · iapply (sendPay_any m ρ true 0 1 c); iexact BB11
      isplitl [BB20]; · iapply (sendPay_any m ρ true 1 0 c); iexact BB20
      isplitl [BB21]; · iapply (sendPay_any m ρ true 1 1 c); iexact BB21
      isplitl [SB20] <;> iassumption
  isplitl [ZA00 ZB00 ZA01 ZB01 ZA10 ZB10 ZA11 ZB11 ZA20 ZB20 ZA21 ZB21 YA00 YB00 YA01 YB01 YA10 YB10 YA11 YB11 YA20 YB20 YA21 YB21]
  · isplitl [YA00 YB00 YA01 YB01 YA10 YB10 YA11 YB11 YA20 YB20 YA21 YB21]
    · iapply (Entails.of_eq (twelve fun i => semVal (sendCell i c) 0).symm); iframe
    · iapply (Entails.of_eq (twelve fun i => semVal (recvCell i c) 0).symm); iframe
  isplitl [ZB]; · iexact ZB
  isplitl [HO]
  · unfold due; iexact HO
  isplitl [Hx BA00 BA01 BB00 BB01 KA0 KA1 KB0 KB1]
  · iapply (x_join m ρ c)
    isplitl [Hx]; · iexact Hx
    isplitl [BA00 KA0]
    · isplitl [BA00]; · iapply (sendPay_lent m ρ false 0 c); iexact BA00
      iexact KA0
    isplitl [BA01 KA1]
    · isplitl [BA01]; · iapply (sendPay_lent m ρ false 1 c); iexact BA01
      iexact KA1
    isplitl [BB00 KB0]
    · isplitl [BB00]; · iapply (sendPay_lent m ρ true 0 c); iexact BB00
      iexact KB0
    isplitl [BB01]; · iapply (sendPay_lent m ρ true 1 c); iexact BB01
    iexact KB1
  iapply (out_join m ρ c); iapply (Entails.of_eq (four _).symm); iframe

end Cert.RingScatter

end
-- ==== Proof.Data.lean ====
/-
The kernel's single pipeline step: what each window holds before and after it, what the devices carry into and out of
it, and that the body takes one to the other.
-/
module

public import proofs.«01_k».proof.Proof.Body

@[expose] public section

noncomputable section

namespace Cert.RingScatter

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Small splits -/

omit [FloatOps F] in
/-- A device's semaphores, the barrier apart. -/
theorem option_split (Φ : Option Port → sProp 𝕄) : bigSep Finset.univ Φ = iprop(Φ none ∗ bigSep Finset.univ fun p => Φ (some p)) := by
  rw [bigSep_univ_equiv (Equiv.optionEquivSumPUnit Port).symm Φ, bigSep_univ_sum]
  have h1 : (bigSep Finset.univ fun p => Φ ((Equiv.optionEquivSumPUnit Port).symm (Sum.inl p))) = bigSep Finset.univ fun p => Φ (some p) := rfl
  have h2 : (bigSep Finset.univ fun u : PUnit.{1} => Φ ((Equiv.optionEquivSumPUnit Port).symm (Sum.inr u))) = Φ none :=
    (bigSep_univ_eq_bigSepL [PUnit.unit.{1}] (by decide) (by decide) _).trans (by rw [bigSepL_singleton]; rfl)
  rw [h1, h2]
  exact equiv_iff.mp ⟨BI.sep_comm, BI.sep_comm⟩

omit [FloatOps F] in
theorem bool_split (Φ : Bool → sProp 𝕄) : bigSep Finset.univ Φ = iprop(Φ false ∗ Φ true) := by
  rw [bigSep_univ_eq_bigSepL [false, true] (by decide) (by decide), bigSepL_cons_cons, bigSepL_singleton]; rfl

omit [FloatOps F] in
/-- The transfer semaphores, senders' and receivers'. -/
theorem ports_split (Φ : Port → sProp 𝕄) :
    bigSep Finset.univ Φ = iprop((bigSep Finset.univ fun i : Leg => Φ (false, i)) ∗ bigSep Finset.univ fun i : Leg => Φ (true, i)) := by
  rw [bigSep_univ_prod, bool_split]

/-! ## What a device is dealt -/

/-- What a device is dealt at launch, under the names `K` of the semaphores' invariants: its barrier's tokens and place, a
    ticket for each leg, and its place at each arrival. -/
def deal (K : Dev nD × Option Port → ℕ) (c : Dev nD) : sProp 𝕄 :=
  iprop(((bigSep Finset.univ fun ck => cellInv ER (sched m ρ) (K ck) (cellAt ck)) ∗ bigSep Finset.univ fun ck => reached ER (cellAt ck) 0)
    ∗ (dutyTok ER (barCell (src false c)) 0 false ∗ dutyTok ER (barCell (src true c)) 0 true ∗ atPos ER (barCell c) 0 ∅ 0)
    ∗ (bigSep Finset.univ fun i => ticket i c) ∗ (bigSep Finset.univ fun i => atPos ER (recvCell i c) 0 ∅ 0))

/-- The credits a device starts with: its barrier's two units, and each arrival's. -/
def credits (c : Dev nD) : sProp 𝕄 :=
  iprop(cred (tallyAt (barCell c) () 2) ∗ bigSep Finset.univ fun i => cred (tallyAt (recvCell i c) () N))

def start (c : Dev nD) : sProp 𝕄 := iprop((∃ K, deal m ρ K c) ∗ credits c ∗ levAts L lv)

/-- The deal, the credits and the levels make what the body starts from. -/
theorem ghost_of (K : Dev nD × Option Port → ℕ) (c : Dev nD) : iprop(deal m ρ K c ∗ credits c ∗ levAts L lv) ⊢ ghost m ρ K c := by
  unfold deal credits ghost records
  have hp : (bigSep Finset.univ fun i => (pending (true, i) c : sProp 𝕄))
      = iprop((bigSep Finset.univ fun i => atPos ER (recvCell i c) 0 ∅ 0) ∗ bigSep Finset.univ fun i => cred (tallyAt (recvCell i c) () N)) := by
    rw [← bigSep_sep']; rfl
  rw [hp]
  iintro ⟨⟨⟨HI, HR⟩, ⟨HtA, HtB, HaB⟩, Ht, Ha⟩, ⟨HcB, Hc⟩, HL⟩
  isplitl [HI HR HL]
  · isplitl [HI]; · iexact HI
    isplitl [HR]; · iexact HR
    iexact HL
  isplitl [HtA HtB HaB HcB]
  · isplitl [HtA]; · iexact HtA
    isplitl [HtB]; · iexact HtB
    isplitl [HaB]; · iexact HaB
    iexact HcB
  isplitl [Ht]; · iexact Ht
  isplitl [Ha]; · iexact Ha
  iexact Hc

/-! ## The pipeline's data -/

/-- Carried into the step, -/
def Φ₀ (c : Dev nD) : sProp 𝕄 := iprop(start m ρ c ∗ bufs c)
/-- and out of it. -/
def Φ₁ (c : Dev nD) : sProp 𝕄 := iprop(bufs c ∗ zeros c ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-- A staging buffer at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem owns_stg (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

/-- What the step owns before the body, -/
def stepPre (c : Dev nD) : sProp 𝕄 :=
  iprop(Φ₀ m ρ c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))
/-- and after it. -/
def stepPost (c : Dev nD) : sProp 𝕄 :=
  iprop(Φ₁ c ∗ (dats m ρ 0 c).owesAt () t0_0.succ ∗ stg c cc0_stg0_0 (xstg m ρ c) ∗ stg c cc0_stg1_0 (outAt m ρ c))

theorem stepPre_of (c : Dev nD) : stepPre m ρ c ⊢ iprop(∃ K, bodyPre m ρ K c) := by
  unfold stepPre Φ₀ start bodyPre Dat.owesAt Pipeline.owesWithin
  iintro ⟨⟨⟨⟨%K, HD⟩, HC, HL⟩, Hb⟩, ⟨%W, -, HO⟩, ⟨%d0, %g0, %hg0, Hx⟩, ⟨%d1, %g1, -, Hout⟩⟩
  iexists K
  isplitl [HD HC HL]
  · iapply (ghost_of m ρ K c)
    isplitl [HD]; · iexact HD
    isplitl [HC]; · iexact HC
    iexact HL
  isplitl [Hb]; · iexact Hb
  isplitl [HO]; · iexists W; iexact HO
  isplitl [Hx]
  · rw [show xstg m ρ c = g0 from Eq.symm (hg0.trans (by unfold Dat.before; rw [if_pos (show (cfg0.win (0 : Fin 2)).fetch t0_0 = true from rfl)]; rfl))]
    iexact Hx
  iexists g1; iexact Hout

theorem stepPost_of (c : Dev nD) : bodyPost m ρ c ⊢ stepPost m ρ c := by
  unfold bodyPost stepPost Φ₁ Dat.owesAt Pipeline.owesWithin
  iintro ⟨Hb, Hz, HzB, ⟨%W, HO⟩, Hx, Hout⟩
  isplitl [Hb Hz HzB]
  · isplitl [Hb]; · iexact Hb
    isplitl [Hz]; · iexact Hz
    iexact HzB
  isplitl [HO]
  · iexists W
    isplitr; · ipureintro; exact fun _ _ => Or.inl trivial
    iexact HO
  isplitl [Hx]
  · iexists _; isplitr
    · ipureintro; rfl
    iexact Hx
  iexists _; isplitr
  · ipureintro; rfl
  iexact Hout

set_option maxRecDepth 4000 in
/-- The body meets the pipeline's obligation. -/
theorem body_obligation (c : Dev nD) : BodyObligation (dats (F := F) m ρ 0 c) (defs₀ (F := F)) 𝒱₀ () Set.univ := fun t => by
  rw [fin_N0 t]
  rw [bigSep_W0, bigSep_W0]
  simp only [owns_stg]
  show stepPre m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3 cc0_scratch4 cc0_scratch5)
    (fun _ => stepPost m ρ c)
  iintro H
  ihave H := (stepPre_of m ρ c) $$ H
  icases H with ⟨%K, H⟩
  iapply (body_run m ρ K c fun _ => stepPost m ρ c)
  isplitl [H]; · iexact H
  iintro H; iapply (stepPost_of m ρ c); iexact H

end Cert.RingScatter

end
-- ==== Proof.Launch.lean ====
/-
The launch: every semaphore's invariant made, the tokens dealt to the devices that pay with them, the credits counted, and
the program's run to its end on every device.
-/
module

public import proofs.«01_k».proof.Proof.Data
public import Idealize.ShloMosaic.Lib.Pipeline.CollectiveSegs

@[expose] public section

noncomputable section

namespace Cert.RingScatter

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The semaphores and the tokens -/

/-- The kernel's own semaphores. -/
abbrev osem (p : Port) : SemLoc sig := .dma (portSem p)

theorem ownSemFacts : Pipeline.OwnSemFacts cfg0.spec osem where
  isScoped := by decide +kernel
  inj := fun a b h => portSem_inj (SemLoc.dma.inj h)
  disj := by decide +kernel

theorem share_eq (c : Dev nD) (w : Fin cfg0.W) : (dats m ρ 0 c).share w = fullShare := by unfold Dat.share; split <;> rfl

theorem cellAt_inj : Function.Injective (cellAt : Dev nD × Option Port → GSem nD τ sig) := by
  rintro ⟨c, k⟩ ⟨c', k'⟩ h
  obtain rfl : c = c' := congrArg (fun g : GSem nD τ sig => g.1.1) h
  obtain rfl : k = k' := locOf_inj (congrArg (fun g : GSem nD τ sig => g.2) h)
  rfl
def ringCells : Finset (GSem nD τ sig) := Finset.univ.map ⟨cellAt, cellAt_inj⟩

/-- A token for each semaphore and each of the two names a duty can have. -/
abbrev tokAt (ckb : Dev nD × Option Port × Bool) : GSem nD τ sig × ℕ × Bool := (cellAt (ckb.1, ckb.2.1), 0, ckb.2.2)
theorem tokAt_inj : Function.Injective tokAt := by
  rintro ⟨c, k, b⟩ ⟨c', k', b'⟩ h
  have h1 := cellAt_inj (congrArg Prod.fst h)
  have h2 : b = b' := congrArg (fun x : GSem nD τ sig × ℕ × Bool => x.2.2) h
  cases h1; cases h2; rfl
def ringToks : Finset (GSem nD τ sig × ℕ × Bool) := Finset.univ.map ⟨tokAt, tokAt_inj⟩

def u₀ : UU := (initOf (Pipeline.cells cfgs cellOf_inj) (Pipeline.launchToks cfgs cellOf_inj), initOf ringCells ringToks)

/-- The duty tokens of device `c`'s own semaphores. -/
def toks (c : Dev nD) : sProp 𝕄 :=
  iprop((dutyTok ER (barCell c) 0 false ∗ dutyTok ER (barCell c) 0 true)
    ∗ (bigSep Finset.univ fun i => dutyTok ER (sendCell i c) 0 false) ∗ (bigSep Finset.univ fun i => dutyTok ER (recvCell i c) 0 false))

/-- What the launch element deals device `c`. -/
def G (c : Dev nD) : sProp 𝕄 :=
  iprop((bigSep Finset.univ fun k : Option Port => roundState ER (sched m ρ) (cellAt (c, k)) 0)
    ∗ ((bigSep Finset.univ fun k : Option Port => atPos ER (cellAt (c, k)) 0 ∅ 0) ∗ (bigSep Finset.univ fun k : Option Port => reached ER (cellAt (c, k)) 0)) ∗ toks c)

/-- What the devices make of it together. -/
def G' (c : Dev nD) : sProp 𝕄 := iprop(∃ K, deal m ρ K c)

omit [FloatOps F] in
theorem toks_of (c : Dev nD) : (bigSep Finset.univ fun kb : Option Port × Bool => dutyTok ER (cellAt (c, kb.1)) 0 kb.2) ⊢ (toks c : sProp 𝕄) := by
  rw [bigSep_univ_prod, option_split, bool_split]
  unfold toks
  have h : (bigSep Finset.univ fun p : Port => bigSep Finset.univ fun b : Bool => (dutyTok ER (cellAt (c, some p)) 0 b : sProp 𝕄))
      ⊢ bigSep Finset.univ fun p : Port => dutyTok ER (cellAt (c, some p)) 0 false :=
    bigSep_mono fun p _ => bigSep_elim (Finset.mem_univ false)
  iintro ⟨HB, HP⟩
  isplitl [HB]; · iexact HB
  iapply (Entails.of_eq (ports_split fun p => dutyTok ER (cellAt (c, some p)) 0 false)); iapply h; iexact HP

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Option Port => Φ (cellAt (c, k)) := by
    unfold ringCells; rw [bigSep_map, bigSep_univ_prod]; rfl
  have hT : bigSep ringToks (fun x => (dutyTok ER x.1 x.2.1 x.2.2 : sProp 𝕄)) ⊢ bigSep Finset.univ fun c : Dev nD => toks c := by
    unfold ringToks; rw [bigSep_map, bigSep_univ_prod]
    exact bigSep_mono fun c _ => toks_of c
  iintro HX
  imod (Rounds.fund ER (sched m ρ) ringCells ringToks) $$ HX with ⟨Hst, Hr, Hat, Htok⟩
  imodintro
  ihave Hst := (Entails.of_eq (hX fun g => roundState ER (sched m ρ) g 0)) $$ Hst
  ihave Hat := (Entails.of_eq (hX fun g => atPos ER g 0 ∅ 0)) $$ Hat
  ihave Hr := (Entails.of_eq (hX fun g => reached ER g 0)) $$ Hr
  ihave Htok := hT $$ Htok
  unfold G; simp only [bigSep_sep']
  isplitl [Hst]; · iexact Hst
  isplitl [Hat Hr]
  · isplitl [Hat] <;> iassumption
  iexact Htok

/-! ## The invariants -/

omit [FloatOps F] in
theorem ownSems0_eq (c : Dev nD) : (Pipeline.ownSems0 (Ix := Unit) (Name := ℕ) (U := UU) (Lvl := ℕ) (Val := Elt F) (τ := τ) osem c : sProp 𝕄) = zeros c := by
  unfold Pipeline.ownSems0 zeros; exact ports_split _
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl
omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Option Port => semVal (cellAt (c, k)) 0 : sProp 𝕄) := by
  rw [unscopedSems0_eq, option_split]
  unfold Pipeline.ownSems0
  iintro ⟨HP, HB⟩
  isplitl [HB]; · iexact HB
  iexact HP

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (cellAt (c, k))))
          ∗ ((bigSep Finset.univ fun k : Option Port => atPos ER (cellAt (c, k)) 0 ∅ 0) ∗ (bigSep Finset.univ fun k : Option Port => reached ER (cellAt (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Option Port => semVal (cellAt (c, k)) 0) ∗ bigSep Finset.univ fun k : Option Port => roundState ER (sched m ρ) (cellAt (c, k)) 0)
      ⊢ (|={Set.univ}=> bigSep Finset.univ fun k => iprop(∃ κ : ℕ, cellInv ER (sched m ρ) κ (cellAt (c, k))) : sProp 𝕄) from by
        rw [← bigSep_sep']
        exact (bigSep_mono fun k _ => (Rounds.body_intro ER (sched m ρ) (cellAt (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The deal -/

/-- What stays with device `c`: its places, and the tokens of the duties it pays. -/
def hand (c : Dev nD) : sProp 𝕄 :=
  iprop((dutyTok ER (barCell (src false c)) 0 false ∗ dutyTok ER (barCell (src true c)) 0 true)
    ∗ (bigSep Finset.univ fun i => dutyTok ER (sendCell i c) 0 false) ∗ (bigSep Finset.univ fun i => dutyTok ER (recvCell i (dst i.1 c)) 0 false))

omit [FloatOps F] in
/-- The tokens go round the ring: a barrier's to the device that signals it, a receiver's to the sender. -/
theorem toks_around : (bigSep Finset.univ fun c : Dev nD => (toks c : sProp 𝕄)) ⊢ bigSep Finset.univ fun c : Dev nD => hand c := by
  have h (b : Bool) : (bigSep Finset.univ fun c : Dev nD => (dutyTok ER (barCell c) 0 b : sProp 𝕄)) = bigSep Finset.univ fun c : Dev nD => dutyTok ER (barCell (src b c)) 0 b :=
    bigSep_univ_equiv (turn b).symm _
  have hr : (bigSep Finset.univ fun c : Dev nD => bigSep Finset.univ fun i : Leg => (dutyTok ER (recvCell i c) 0 false : sProp 𝕄))
      = bigSep Finset.univ fun c : Dev nD => bigSep Finset.univ fun i : Leg => dutyTok ER (recvCell i (dst i.1 c)) 0 false := by
    rw [bigSep_univ_comm, bigSep_univ_comm (fun (c : Dev nD) (i : Leg) => (dutyTok ER (recvCell i (dst i.1 c)) 0 false : sProp 𝕄))]
    exact bigSep_congr fun i _ => bigSep_univ_equiv (turn i.1) _
  unfold toks hand
  rw [bigSep_sep', bigSep_sep', bigSep_sep', bigSep_sep', bigSep_sep', bigSep_sep', h false, h true, hr]

/-- A device's places and tokens, with the records, are its deal. -/
theorem deal_of (K : Dev nD × Option Port → ℕ) (c : Dev nD) :
    iprop(((bigSep Finset.univ fun ck => cellInv ER (sched m ρ) (K ck) (cellAt ck)) ∗ bigSep Finset.univ fun ck => reached ER (cellAt ck) 0)
      ∗ (bigSep Finset.univ fun k : Option Port => atPos ER (cellAt (c, k)) 0 ∅ 0) ∗ hand c) ⊢ G' m ρ c := by
  have ht : (bigSep Finset.univ fun i => (ticket i c : sProp 𝕄))
      = iprop((bigSep Finset.univ fun i => dutyTok ER (sendCell i c) 0 false) ∗ (bigSep Finset.univ fun i => dutyTok ER (recvCell i (dst i.1 c)) 0 false)
        ∗ bigSep Finset.univ fun i => atPos ER (sendCell i c) 0 ∅ 0) := by
    rw [← bigSep_sep', ← bigSep_sep']; rfl
  unfold G' deal hand
  rw [ht, option_split, ports_split]
  iintro ⟨HR, ⟨HaB, HaS, HaR⟩, ⟨HtA, HtB⟩, HtS, HtR⟩
  iexists K
  isplitl [HR]; · iexact HR
  isplitl [HtA HtB HaB]
  · isplitl [HtA]; · iexact HtA
    isplitl [HtB]; · iexact HtB
    iexact HaB
  isplitl [HtS HtR HaS]
  · isplitl [HtS]; · iexact HtS
    isplitl [HtR]; · iexact HtR
    iexact HaS
  iexact HaR

omit [FloatOps F] in
/-- What everybody may hold, everybody is given. -/
theorem share_out {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched m ρ) κ (cellAt (c, k))))
          ∗ ((bigSep Finset.univ fun k : Option Port => atPos ER (cellAt (c, k)) 0 ∅ 0) ∗ (bigSep Finset.univ fun k : Option Port => reached ER (cellAt (c, k)) 0)) ∗ toks c) : sProp 𝕄)
      ⊢ bigSep Finset.univ (G' m ρ) := by
  rw [bigSep_sep', bigSep_sep', bigSep_sep', ← bigSep_univ_prod (fun ck : Dev nD × Option Port => iprop(∃ κ : ℕ, cellInv ER (sched m ρ) κ (cellAt ck))),
    ← bigSep_univ_prod (fun ck : Dev nD × Option Port => (reached ER (cellAt ck) 0 : sProp 𝕄))]
  iintro ⟨HI, ⟨Hat, #HR⟩, Htok⟩
  ihave HK := (BI.bigSep_exists_pi Finset.univ (fun (ck : Dev nD × Option Port) (κ : ℕ) => (cellInv ER (sched m ρ) κ (cellAt ck) : sProp 𝕄))) $$ HI
  icases HK with ⟨%K, #HI⟩
  ihave Htok := (toks_around (F := F)) $$ Htok
  iapply (share_out (R := iprop((bigSep Finset.univ fun ck => cellInv ER (sched m ρ) (K ck) (cellAt ck)) ∗ bigSep Finset.univ fun ck => reached ER (cellAt ck) 0))
    fun c _ => deal_of m ρ K c)
  isplitr
  · isplitl; · iexact HI
    iexact HR
  · iapply (Entails.of_eq (bigSep_sep' Finset.univ (fun c : Dev nD => bigSep Finset.univ fun k : Option Port => (atPos ER (cellAt (c, k)) 0 ∅ 0 : sProp 𝕄)) hand).symm)
    isplitl [Hat]; · iexact Hat
    iexact Htok

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credits -/

theorem cell_ne {c c' : Dev nD} {k k' : Option Port} (h : k ≠ k') : ¬ (cellAt (c, k) = cellAt (c', k')) :=
  fun e => h (congrArg Prod.snd (cellAt_inj e))

theorem tally_cell (c c' : Dev nD) (k : Option Port) (n : ℕ) : (tallyAt (cellAt (c', k)) () n : CellTallies nD τ sig Unit) (cellAt (c, k)) () = if c = c' then n else 0 := by
  rw [tallyAt_apply]
  by_cases h : c = c'
  · subst h; rw [if_pos ⟨rfl, rfl⟩, if_pos rfl]
  · rw [if_neg fun e => h (congrArg Prod.fst (cellAt_inj e.1)), if_neg h]
theorem tally_other (c c' : Dev nD) {k k' : Option Port} (h : k ≠ k') (n : ℕ) : (tallyAt (cellAt (c', k')) () n : CellTallies nD τ sig Unit) (cellAt (c, k)) () = 0 := by
  rw [tallyAt_apply, if_neg fun e => cell_ne h e.1]

/-- A device owes leg `i`'s credit once for each time it starts it, at the device it sends to. -/
theorem owe_recv (d c : Dev nD) (i : Leg) : ∀ l : List Leg, owe d l (recvCell i c) () = l.count i * (if c = dst i.1 d then N else 0)
  | [] => (Nat.zero_mul _).symm
  | j :: l => by
    rw [owe, Pi.add_apply, Finsupp.add_apply, owe_recv d c i l, List.count_cons]
    by_cases h : j = i
    · subst h
      rw [show (tallyAt (recvCell j (dst j.1 d)) () N : CellTallies nD τ sig Unit) (recvCell j c) () = _ from tally_cell c (dst j.1 d) (some (true, j)) N,
        beq_self_eq_true, if_pos rfl, Nat.add_mul, Nat.one_mul]
    · rw [show (tallyAt (recvCell j (dst j.1 d)) () N : CellTallies nD τ sig Unit) (recvCell i c) () = _ from
          tally_other c (dst j.1 d) (k := some (true, i)) (k' := some (true, j)) (fun e => h (congrArg Prod.snd (Option.some.inj e)).symm) N,
        if_neg (show ¬ (j == i) = true by simpa using h), Nat.add_zero, Nat.add_zero]
theorem owe_bar (d c : Dev nD) : ∀ l : List Leg, owe d l (barCell c) () = 0
  | [] => rfl
  | j :: l => by
    rw [owe, Pi.add_apply, Finsupp.add_apply, owe_bar d c l,
      show (tallyAt (recvCell j (dst j.1 d)) () N : CellTallies nD τ sig Unit) (barCell c) () = _ from
        tally_other c (dst j.1 d) (k := none) (k' := some (true, j)) (fun e => nomatch e) N]

theorem order_count (i : Leg) : order.count i = 1 := by revert i; decide

theorem owed_recv (d c : Dev nD) (i : Leg) : O₀ d (recvCell i c) () = if c = dst i.1 d then N else 0 := by
  unfold O₀ O₁
  rw [Pi.add_apply, Finsupp.add_apply, Pi.add_apply, Finsupp.add_apply, owe_recv, order_count, Nat.one_mul,
    show (tallyAt (barCell (src true d)) () 1 : CellTallies nD τ sig Unit) (recvCell i c) () = _ from
      tally_other c (src true d) (k := some (true, i)) (k' := none) (fun e => nomatch e) 1,
    show (tallyAt (barCell (src false d)) () 1 : CellTallies nD τ sig Unit) (recvCell i c) () = _ from
      tally_other c (src false d) (k := some (true, i)) (k' := none) (fun e => nomatch e) 1, Nat.add_zero]
theorem owed_bar (d c : Dev nD) : O₀ d (barCell c) () = (if c = src true d then 1 else 0) + (if c = src false d then 1 else 0) := by
  unfold O₀ O₁
  rw [Pi.add_apply, Finsupp.add_apply, Pi.add_apply, Finsupp.add_apply, owe_bar, Nat.zero_add,
    show (tallyAt (barCell (src true d)) () 1 : CellTallies nD τ sig Unit) (barCell c) () = _ from tally_cell c (src true d) none 1,
    show (tallyAt (barCell (src false d)) () 1 : CellTallies nD τ sig Unit) (barCell c) () = _ from tally_cell c (src false d) none 1]

/-- One device in the ring sends to `c`, and one receives from it. -/
theorem sum_dst (b : Bool) (c : Dev nD) (n : ℕ) : (∑ d : Dev nD, if c = dst b d then n else 0) = n :=
  (Finset.sum_congr rfl fun d _ => if_congr (by revert b c d; decide : c = dst b d ↔ d = src b c) rfl rfl).trans
    ((Finset.sum_ite_eq' Finset.univ (src b c) fun _ => n).trans (if_pos (Finset.mem_univ _)))
theorem sum_src (b : Bool) (c : Dev nD) (n : ℕ) : (∑ d : Dev nD, if c = src b d then n else 0) = n :=
  (Finset.sum_congr rfl fun d _ => if_congr (by revert b c d; decide : c = src b d ↔ d = dst b c) rfl rfl).trans
    ((Finset.sum_ite_eq' Finset.univ (dst b c) fun _ => n).trans (if_pos (Finset.mem_univ _)))

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, sum_src, sum_src]
theorem launch_recv (c : Dev nD) (i : Leg) :
    tallyOn (recvCell i c) (launchCredit (Pipeline.owing O₀) 0 (recvCell i c)) = (tallyAt (recvCell i c) () N : CellTallies nD τ sig Unit) := by
  unfold tallyAt; refine congrArg _ (Finsupp.ext fun u => ?_); cases u
  rw [Pipeline.launchCredit_owing, Finsupp.single_eq_same, Finset.sum_congr rfl fun d _ => owed_recv d c i, sum_dst]

omit [FloatOps F] in
/-- The launch's credits include those a device starts with. -/
theorem creds (c : Dev nD) : (Pipeline.launchCred O₀ c : sProp 𝕄) ⊢ credits c := by
  unfold Pipeline.launchCred credits
  refine (bigSep_subset (Finset.subset_univ (Finset.univ.map ⟨locOf, locOf_inj⟩))).trans ?_
  rw [bigSep_map]
  have h := option_split (F := F) fun k => cred (tallyOn (cellAt (c, k)) (launchCredit (Pipeline.owing O₀) 0 (cellAt (c, k))))
  refine (Entails.of_eq h).trans ?_
  rw [show (cred (tallyOn (cellAt (c, none)) (launchCredit (Pipeline.owing O₀) 0 (cellAt (c, none)))) : sProp 𝕄) = cred (tallyAt (barCell c) () 2) from
    congrArg _ (launch_bar c), ports_split]
  iintro ⟨HB, -, HR⟩
  isplitl [HB]; · iexact HB
  have hr : (bigSep Finset.univ fun i : Leg => (cred (tallyOn (cellAt (c, some (true, i))) (launchCredit (Pipeline.owing O₀) 0 (cellAt (c, some (true, i))))) : sProp 𝕄))
      ⊢ bigSep Finset.univ fun i => cred (tallyAt (recvCell i c) () N) :=
    bigSep_mono fun i _ => by
      rw [show (tallyOn (cellAt (c, some (true, i))) (launchCredit (Pipeline.owing O₀) 0 (cellAt (c, some (true, i)))) : CellTallies nD τ sig Unit) = _ from launch_recv c i]
      exact BI.Entails.refl _
  iapply hr; iexact HR

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem bufs_eq (c : Dev nD) : (Pipeline.scopedRest cfg0.spec c : sProp 𝕄) = bufs c := by
  unfold bufs; rw [bufAny_false, bufAny_true]; exact scopedRest0_eq c

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, bufs_eq]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, bufs_eq, ownSems0_eq, unscopedSems0_eq]
  unfold Φ₁
  iintro ⟨Hr, Hz, HzB⟩
  isplitl [HzB]; · iexact HzB
  isplitl [Hz]; · iexact Hz
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- What the pipeline leaves in window `w`'s array on device `c`. -/
def finalA (c : Dev nD) (w : Fin cfg0.W) : Buf (Elt F) ((cfg0.win w).arr.view.loc (c : Thread nD τ)) := (dats m ρ 0 c).arrAt w cfg0.N

set_option maxRecDepth 8000 in
/-- From any memory with zero counters, every fair run of the program on the four devices ends, with each device's arrays
    at what the pipeline leaves there and every counter zero. -/
theorem run_main : θ_run defs (onTc (τ := τ) (main (F := F))) (s₀ m ρ) (fun r =>
    (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The input array holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.RingScatter

end
-- ==== Proof.Value.lean ====
/- What a device's result array holds after the run, element by element: the sum over the four devices of the
   element of their inputs at the same row and at the column of this device's shard. First, over any values: the
   result array is the block the body leaves, and a piece of an input block is the input's element. Then, at the
   ideal values, the four pieces a quadrant has summed along the ring are the sum over all devices. -/
module

public import proofs.«01_k».proof.Proof.Launch
public import proofs.«01_k».proof.Proof.Gen.KernelIdeal.Points
public import Idealize.ShloMosaic.Lib.Pipeline.Value
public import Idealize.ShloMosaic.Lib.Pipeline.ValueKit
public import Idealize.ShloMosaic.Lib.ValueLayout

@[expose] public section

noncomputable section

namespace Cert.RingScatter

open Cert.KernelIdeal Cert.KernelIdeal.Gen

open Idealize.ShloMosaic
open Idealize.ShloMosaic.TcCoe
open Idealize.ShloMosaic.Pipeline (Dat Cfg Window cellOf)

variable {F : FTy → Type} [FloatOps F]
variable (m : (ℓ : Loc nD τ sig) → Buf (Elt F) ℓ) (ρ : Dev nD → PrngReg)

/-! ## The arrays and the staged blocks -/

/-- Device `c`'s input array at launch. -/
def arg (c : Dev nD) : S1x1024x2048.Idx → Elt F .f32 := m ((c : Thread nD τ).loc main_arg0)

/-- The staged input block is the input array. -/
theorem xstg_eq (c : Dev nD) : xstg m ρ c = arg m c := by
  funext j
  refine congrArg (arg m c) (funext fun a => Fin.ext ?_)
  show ((win0_0.rect (0 : Fin 1)).emb j a).val = _
  rw [Rect.emb_apply]
  show 0 * _ + 1 * (j a).val = (j a).val
  omega

/-- The result array ends holding the block the body leaves. -/
theorem finalA_out (c : Dev nD) : finalA m ρ c (1 : Fin 2) = outAt m ρ c := by
  have hemb : ∀ (t : Fin cfg0.N) (j : S1024x512.Idx), ((win0_1.blk t).view.emb j : S1024x512.Idx) = j := by
    intro t j
    funext a
    refine Fin.ext ?_
    show ((win0_1.rect t).emb j a).val = _
    rw [Rect.emb_apply]
    show 0 * _ + 1 * (j a).val = (j a).val
    omega
  refine (dats m ρ 0 c).arrAt_eq_of_cover (1 : Fin 2) (outAt m ρ c) (fun t _ => ?_) fun i => ⟨(0 : Fin 1), flush0_1 _, ?_⟩
  · funext j
    exact congrArg (outAt m ρ c) (hemb t j).symm
  · have := ((win0_1.blk (0 : Fin 1)).view).emb_mem_set i
    have e : ((win0_1.blk (0 : Fin 1)).view.emb i : S1024x512.Idx) = i := hemb (0 : Fin 1) i
    exact e ▸ this

/-! ## A piece, element by element -/

/-- Row `i` of row group `g`. -/
def row (g : Fin 2) (i : Fin 512) : Fin 1024 := ⟨512 * g.val + i.val, by omega⟩

/-- Column `j` of direction `d`'s half of shard `k`. -/
def col (d : Bool) (k : Dev nD) (j : Fin 256) : Fin 2048 :=
  ⟨512 * k.val + 256 * d.toNat + j.val, by have := k.isLt; change k.val < 4 at this; have := Bool.toNat_le d; omega⟩

/-- A piece of shard `k` holds the input's elements at its rows and columns. -/
theorem piece_apply (d : Bool) (g : Fin 2) (k c : Dev nD) (i : Fin 512) (j : Fin 256) :
    piece m ρ d g k c (ix2 i j) = arg m c (ix3 (0 : Fin 1) (row g i) (col d k j)) := by
  unfold piece
  rw [xstg_eq]
  show arg m c ((xR d g k).emb (Shape.reshapeEquiv _ (ValueIdx.ix2 i j))) = _
  rw [ValueIdx.reshapeEquiv_ix2_1ab]
  refine congrArg (arg m c) (funext fun a => Fin.ext ?_)
  fin_cases a <;> simp [row, col, xR, xoff, Rect.unit, Rect.emb]

/-! ## Around the ring -/

/-- What device `c` keeps of a quadrant: the pieces of its own shard, from the device three behind up to its own. -/
theorem sent_three (d : Bool) (g : Fin 2) (c : Dev nD) :
    sent m ρ d g 3 c = addf (addf (addf (piece m ρ d g c (src d (src d (src d c)))) (piece m ρ d g c (src d (src d c))))
      (piece m ρ d g c (src d c))) (piece m ρ d g c c) := by
  have h : ∀ (d : Bool) (c : Dev nD), src d (src d (src d (src d c))) = c ∧ shard d 0 (src d (src d c)) = c
      ∧ shard d 1 (src d c) = c ∧ shard d 2 c = c := by decide
  obtain ⟨h0, h1, h2, h3⟩ := h d c
  simp only [sent, h0, h1, h2, h3]

/-- A sum taken around the ring is the sum over the devices. -/
theorem ring_sum (d : Bool) (c : Dev nD) (f : Dev nD → EReal) :
    f (src d (src d (src d c))) + f (src d (src d c)) + f (src d c) + f c = ∑ e : Fin 4, f e := by
  have h : ∀ (d : Bool) (c : Dev nD), ({src d (src d (src d c)), src d (src d c), src d c, c} : Finset (Dev nD)) = Finset.univ
      ∧ src d (src d (src d c)) ∉ ({src d (src d c), src d c, c} : Finset (Dev nD))
      ∧ src d (src d c) ∉ ({src d c, c} : Finset (Dev nD)) ∧ src d c ∉ ({c} : Finset (Dev nD)) := by decide
  obtain ⟨h0, h1, h2, h3⟩ := h d c
  show _ = ∑ e : Dev nD, f e
  rw [← h0, Finset.sum_insert h1, Finset.sum_insert h2, Finset.sum_insert h3, Finset.sum_singleton]
  simp only [add_assoc]

end Cert.RingScatter

namespace Cert.RingScatter

open Cert.KernelIdeal Cert.KernelIdeal.Gen

open Idealize.ShloMosaic
open Idealize.ShloMosaic.TcCoe

variable (m : (ℓ : Loc nD τ sig) → Buf (Elt Ideal) ℓ) (ρ : Dev nD → PrngReg)

/-- Column `j` of device `c`'s shard. -/
def shardCol (c : Dev nD) (j : Fin 512) : Fin 2048 :=
  ⟨512 * c.val + j.val, by have := c.isLt; change c.val < 4 at this; omega⟩

/-- At the ideal values a quadrant's element is the sum over the devices of their inputs' elements there. -/
theorem sent_apply (d : Bool) (g : Fin 2) (c : Dev nD) (i : Fin 512) (j : Fin 256) :
    sent m ρ d g 3 c (ix2 i j) = ∑ e : Fin 4, (arg m e (ix3 (0 : Fin 1) (row g i) (col d c j)) : EReal) := by
  rw [sent_three, ← ring_sum d c]
  simp only [← piece_apply m ρ]
  rfl

/-- THE RESULT: device `c`'s result at row `i` and column `j` is the sum over the four devices of the element of
    their inputs at row `i` and column `j` of shard `c`. -/
theorem outAt_apply (c : Dev nD) (i : Fin 1024) (j : Fin 512) :
    (outAt m ρ c : S1024x512.Idx → EReal) (ix2 i j) = ∑ e : Fin 4, (arg m e (ix3 (0 : Fin 1) i (shardCol c j)) : EReal) := by
  have h0 := i.isLt
  have h1 := j.isLt
  have hq : (outAt m ρ c : S1024x512.Idx → EReal) (ix2 i j)
      = sent m ρ (decide (256 ≤ j.val)) ⟨i.val / 512, by omega⟩ 3 c (ix2 ⟨i.val % 512, by omega⟩ ⟨j.val % 256, by omega⟩) :=
    congrArg (sent m ρ (decide (256 ≤ j.val)) ⟨i.val / 512, by omega⟩ 3 c) (funext fun a => by fin_cases a <;> rfl)
  have e0 : row ⟨i.val / 512, by omega⟩ ⟨i.val % 512, by omega⟩ = i := Fin.ext (by show 512 * (i.val / 512) + i.val % 512 = i.val; omega)
  have e1 : col (decide (256 ≤ j.val)) c ⟨j.val % 256, by omega⟩ = shardCol c j := Fin.ext (by
    show 512 * c.val + 256 * (decide (256 ≤ j.val)).toNat + j.val % 256 = 512 * c.val + j.val
    by_cases h : 256 ≤ j.val
    · rw [decide_eq_true h, Bool.toNat_true]; omega
    · rw [decide_eq_false h, Bool.toNat_false]; omega)
  rw [hq, sent_apply, e0, e1]

end Cert.RingScatter

end
-- ==== Proof.Ref.lean ====
/- What the reference computes: at each index of its result, the sum of its argument over the leading axis. -/
module

public import proofs.«01_k».proof.Proof.Gen.ReferenceIdeal
public import Idealize.ShloMosaic.Lib.Pointwise.Reduce
public import Idealize.ShloMosaic.PureOps.Ideal.Laws

@[expose] public section

noncomputable section

namespace Cert.RingScatter.Ref

open Cert.ReferenceIdeal Cert.ReferenceIdeal.Gen
open Idealize.ShloMosaic

/-- The array the reference returns for the argument `x`. -/
def total (x : FVec Ideal S4x1024x2048 .f32) : FVec Ideal S1024x2048 .f32 :=
  Host.reduceAdd x (constant S_ .f32 0x00000000#32) reducesTo_S4x1024x2048_S1024x2048_d0 h_S_

/-- At row `i` and column `k` it is the sum over the four entries of the leading axis: the initial value is zero. -/
theorem total_apply (x : FVec Ideal S4x1024x2048 .f32) (i : Fin 1024) (k : Fin 2048) :
    (total x : S1024x2048.Idx → EReal) (ix2 i k) = ∑ e : Fin 4, (x (ix3 e i k) : EReal) := by
  have hz : (constant (F := Ideal) S_ .f32 0x00000000#32 (Shape.Idx.first h_S_) : EReal) = 0 := Ideal.ofBits_zero_f32
  unfold total
  rw [Host.reduceAdd_apply, hz]
  refine (Ideal.hostReduceAdd_r3_a0 (n0 := 4) (n1 := 1024) (n2 := 2048) reducesTo_S4x1024x2048_S1024x2048_d0 x 0 (ix2 i k)).trans ?_
  rw [zero_add]
  rfl

end Cert.RingScatter.Ref

end
-- ==== Proof.Equation.lean ====
/- The equation: when device `c`'s input is block `c` of the reference's argument along the leading axis, device `c`'s
   result is block `c` of the reference's result along the columns. -/
module

public import proofs.«01_k».proof.Proof.Value
public import proofs.«01_k».proof.Proof.Ref
public import Idealize.ShloMosaic.Lib.Layout

@[expose] public section

noncomputable section

namespace Cert.RingScatter

open Cert.KernelIdeal Cert.KernelIdeal.Gen
open Idealize.ShloMosaic
open Idealize.ShloMosaic.TcCoe

variable (m : (ℓ : Loc nD τ sig) → Buf (Elt Ideal) ℓ) (ρ : Dev nD → PrngReg)

/-- Device `e`'s input at row `i` and column `k` is the whole array's entry `e` there. -/
theorem arg_apply (x : FVec Ideal ⟨3, ![4, 1024, 2048]⟩ .f32) (e : Fin 4)
    (h : arg m e = Layout.block ⟨3, ![1, 1024, 2048]⟩ ⟨3, ![4, 1024, 2048]⟩ 0 4 e x) (i : Fin 1024) (k : Fin 2048) :
    arg m e (ix3 (0 : Fin 1) i k) = x (ix3 e i k) := by
  rw [h, Layout.block_apply]
  refine congrArg x (funext fun a => Fin.ext ?_)
  rw [Layout.Tiles.idx_val]
  fin_cases a
  · show e.val * 1 + 0 = e.val; omega
  · rfl
  · rfl

/-- An element of a device's result is the element of its block of the reference's result. -/
theorem outAt_eq_block_apply (x : FVec Ideal ⟨3, ![4, 1024, 2048]⟩ .f32)
    (h : ∀ e : Fin 4, arg m e = Layout.block ⟨3, ![1, 1024, 2048]⟩ ⟨3, ![4, 1024, 2048]⟩ 0 4 e x) (c : Dev nD) (i : Fin 1024) (k : Fin 512) :
    (outAt m ρ c : S1024x512.Idx → EReal) (ix2 i k) = (Layout.block ⟨2, ![1024, 512]⟩ ⟨2, ![1024, 2048]⟩ 1 4 c (Ref.total x)) (ix2 i k) := by
  have ht : Layout.Tiles ⟨2, ![1024, 512]⟩ ⟨2, ![1024, 2048]⟩ 1 4 := by decide
  have hix : ht.idx c (ix2 i k) = ix2 i (shardCol c k) := funext fun a => Fin.ext (by
    rw [Layout.Tiles.idx_val]
    fin_cases a
    · rfl
    · show c.val * 512 + k.val = 512 * c.val + k.val; omega)
  have hs : ∑ e : Fin 4, (arg m e (ix3 (0 : Fin 1) i (shardCol c k)) : EReal) = ∑ e : Fin 4, (x (ix3 e i (shardCol c k)) : EReal) :=
    Finset.sum_congr rfl fun e _ => arg_apply m x e (h e) _ _
  exact ((outAt_apply m ρ c i k).trans hs).trans ((congrArg (Ref.total x) hix).trans (Ref.total_apply x i (shardCol c k))).symm

/-- A device's result is its block of the reference's result. -/
theorem outAt_eq_block (x : FVec Ideal ⟨3, ![4, 1024, 2048]⟩ .f32)
    (h : ∀ e : Fin 4, arg m e = Layout.block ⟨3, ![1, 1024, 2048]⟩ ⟨3, ![4, 1024, 2048]⟩ 0 4 e x) (c : Dev nD) :
    (outAt m ρ c : S1024x512.Idx → EReal) = Layout.block ⟨2, ![1024, 512]⟩ ⟨2, ![1024, 2048]⟩ 1 4 c (Ref.total x) :=
  funext fun j : S1024x512.Idx => by
    have hj : j = ix2 (n0 := 1024) (n1 := 512) (j 0) (j 1) := funext fun a => by fin_cases a <;> rfl
    exact (congrArg (outAt m ρ c : S1024x512.Idx → EReal) hj).trans ((outAt_eq_block_apply m ρ x h c (j 0) (j 1)).trans
      (congrArg (Layout.block ⟨2, ![1024, 512]⟩ ⟨2, ![1024, 2048]⟩ 1 4 c (Ref.total x)) hj.symm))

end Cert.RingScatter

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Equation
public import Idealize.ShloMosaic.Adequacy
public import Idealize.ShloMosaic.Init

@[expose] public section

noncomputable section

namespace Cert.Proof

open Idealize.ShloMosaic Idealize.SL.Sem

/-- The two printed kernels' body tables run the same body. -/
theorem bodies_eq : Cert.Kernel.defs₀ (F := Bits) = Cert.KernelIdeal.defs₀ (F := Bits) := by
  unfold Cert.Kernel.defs₀ Cert.KernelIdeal.defs₀
  congr 1
  funext ℓ a
  match ℓ, a with
  | 0, (t, s) => rfl

/-- So their tables are one. -/
theorem defs_eq : Cert.Kernel.defs (F := Bits) = Cert.KernelIdeal.defs (F := Bits) :=
  congrArg (Pipeline.defs Cert.KernelIdeal.pcfgs) bodies_eq

/-- The kernel at its bits runs to the end, leaves its argument as it was and every semaphore counter at zero. -/
theorem frame_kernel : Cert.quiescent_Kernel := by
  intro m ρ _
  rw [defs_eq]
  exact (θ_run Cert.KernelIdeal.defs _ _).mono
    (fun _ h => ⟨fun c => (h.1 c (0 : Fin 2)).trans (Cert.RingScatter.finalA_x m ρ c), h.2⟩)
    (Cert.RingScatter.run_main (F := Bits) m ρ)

/-- The same of the kernel at the ideal values. -/
theorem frame_kernelIdeal : Cert.quiescent_KernelIdeal := fun m ρ _ =>
  (θ_run Cert.KernelIdeal.defs _ _).mono
    (fun _ h => ⟨fun c => (h.1 c (0 : Fin 2)).trans (Cert.RingScatter.finalA_x m ρ c), h.2⟩)
    (Cert.RingScatter.run_main (F := Ideal) m ρ)

/-- The same of the reference, whose program has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From inputs that are the blocks of one array along its leading axis, the devices' results are the blocks, along the
    columns, of what the reference returns for that array. -/
theorem value : Cert.algebraic_KernelIdeal_ReferenceIdeal := fun m ρ m' ρ' _ hin =>
  ⟨Cert.RingScatter.Ref.total (m' (((0 : Dev Cert.ReferenceIdeal.nD).tc : Thread Cert.ReferenceIdeal.nD Cert.ReferenceIdeal.τ).loc Cert.ReferenceIdeal.main_arg0)),
    (θ_run Cert.KernelIdeal.defs _ _).mono
      (fun _ h c => ⟨((h.1 c (1 : Fin 2)).trans (Cert.RingScatter.finalA_out m ρ c)).trans
          (Cert.RingScatter.outAt_eq_block m ρ _ hin c),
        (h.1 c (0 : Fin 2)).trans (Cert.RingScatter.finalA_x m ρ c)⟩)
      (Cert.RingScatter.run_main (F := Ideal) m ρ),
    (θ_run Cert.ReferenceIdeal.defs _ _).mono (fun _ h => h 0) (Cert.ReferenceIdeal.Value.run (F := Ideal) m' ρ')⟩

/-- Every claim. -/
theorem claim : Cert.Claim := ⟨Cert.Kernel.Gen.facts, Cert.KernelIdeal.Gen.facts, Cert.ReferenceIdeal.Gen.facts,
  frame_kernel, frame_kernelIdeal, frame_reference, trivial, value⟩

end Cert.Proof

end
